-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16 : Shape := ⟨1, ![16]⟩
abbrev S1x64x1024 : Shape := ⟨3, ![1, 64, 1024]⟩
abbrev S20x1024 : Shape := ⟨2, ![20, 1024]⟩
abbrev S2x1024 : Shape := ⟨2, ![2, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S1x64x1024 .f32) (main_arg2 : FVec F S20x1024 .f32) (main_arg3 : FVec F S20x1024 .f32) (main_arg4 : FVec F S2x1024 .f32) (main_arg5 : FVec F S2x1024 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 2#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16 : Shape := ⟨1, ![16]⟩
abbrev S1x64x1024 : Shape := ⟨3, ![1, 64, 1024]⟩
abbrev S20x1024 : Shape := ⟨2, ![20, 1024]⟩
abbrev S2x1024 : Shape := ⟨2, ![2, 1024]⟩
abbrev S84x1024 : Shape := ⟨2, ![84, 1024]⟩
abbrev S_ : Shape := ⟨0, ![]⟩
abbrev S1x1024 : Shape := ⟨2, ![1, 1024]⟩
abbrev S1024 : Shape := ⟨1, ![1024]⟩
abbrev S16x1792x1024 : Shape := ⟨3, ![16, 1792, 1024]⟩
abbrev S1x1792x1024 : Shape := ⟨3, ![1, 1792, 1024]⟩
abbrev S1 : Shape := ⟨1, ![1]⟩
abbrev S64x1024 : Shape := ⟨2, ![64, 1024]⟩

abbrev nBuf : Table → Nat
  | .hbm => 8
  | .local .tc .vmem => 5
  | .local .tc .smem => 1
  | _ => 0

abbrev bufTy : (tb : Table) → Fin (nBuf tb) → BufTy
  | .hbm, ⟨0, _⟩ => ⟨S16, .i32⟩
  | .hbm, ⟨1, _⟩ => ⟨S1x64x1024, .f32⟩
  | .hbm, ⟨2, _⟩ => ⟨S20x1024, .f32⟩
  | .hbm, ⟨3, _⟩ => ⟨S20x1024, .f32⟩
  | .hbm, ⟨4, _⟩ => ⟨S2x1024, .f32⟩
  | .hbm, ⟨5, _⟩ => ⟨S2x1024, .f32⟩
  | .hbm, ⟨6, _⟩ => ⟨S84x1024, .f32⟩
  | .hbm, ⟨7, _⟩ => ⟨S16x1792x1024, .f32⟩
  | .local .tc .vmem, ⟨0, _⟩ => ⟨S1x64x1024, .f32⟩
  | .local .tc .vmem, ⟨1, _⟩ => ⟨S84x1024, .f32⟩
  | .local .tc .vmem, ⟨2, _⟩ => ⟨S2x1024, .f32⟩
  | .local .tc .vmem, ⟨3, _⟩ => ⟨S1x1792x1024, .f32⟩
  | .local .tc .vmem, ⟨4, _⟩ => ⟨S1x1792x1024, .f32⟩
  | .local .tc .smem, ⟨0, _⟩ => ⟨S16, .i32⟩
  | _, _ => ⟨S16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => true
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_arg2_scs : Ref sig .scScalar := ⟨.hbm, 2, rfl⟩
abbrev main_arg3_scs : Ref sig .scScalar := ⟨.hbm, 3, rfl⟩
abbrev main_arg5_scs : Ref sig .scScalar := ⟨.hbm, 5, rfl⟩
abbrev main_v0_scs : Ref sig .scScalar := ⟨.hbm, 6, rfl⟩
abbrev cc1_stg1_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_stg4_0 : Ref sig .tc := ⟨.vmem, 3, rfl⟩
abbrev cc1_stg4_1 : Ref sig .tc := ⟨.vmem, 4, rfl⟩
abbrev cc1_stg0_0 : Ref sig .tc := ⟨.smem, 0, rfl⟩
abbrev cc1_sem0_0 : DmaSem sig := 1
abbrev cc1_sem1_0 : DmaSem sig := 2
abbrev cc1_sem2_0 : DmaSem sig := 3
abbrev cc1_sem3_0 : DmaSem sig := 4
abbrev cc1_sem4_0 : DmaSem sig := 5
abbrev cc1_sem4_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev grid1 : Pipeline.Grid := ⟨1, ![16], ![false]⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S84x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1792x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16 : Shape := ⟨1, ![16]⟩
abbrev S1x64x1024 : Shape := ⟨3, ![1, 64, 1024]⟩
abbrev S20x1024 : Shape := ⟨2, ![20, 1024]⟩
abbrev S2x1024 : Shape := ⟨2, ![2, 1024]⟩
abbrev S1 : Shape := ⟨1, ![1]⟩
abbrev S_ : Shape := ⟨0, ![]⟩
abbrev S28 : Shape := ⟨1, ![28]⟩
abbrev S1x28 : Shape := ⟨2, ![1, 28]⟩
abbrev S16x28 : Shape := ⟨2, ![16, 28]⟩
abbrev S16x1 : Shape := ⟨2, ![16, 1]⟩
abbrev S16x28x1 : Shape := ⟨3, ![16, 28, 1]⟩
abbrev S1x1x1 : Shape := ⟨3, ![1, 1, 1]⟩
abbrev S16x28x1024 : Shape := ⟨3, ![16, 28, 1024]⟩
abbrev S16x28x1x1024 : Shape := ⟨4, ![16, 28, 1, 1024]⟩
abbrev S3 : Shape := ⟨1, ![3]⟩
abbrev S3x9 : Shape := ⟨2, ![3, 9]⟩
abbrev S27 : Shape := ⟨1, ![27]⟩
abbrev S9 : Shape := ⟨1, ![9]⟩
abbrev S1x9 : Shape := ⟨2, ![1, 9]⟩
abbrev S28x1 : Shape := ⟨2, ![28, 1]⟩
abbrev S1x1 : Shape := ⟨2, ![1, 1]⟩
abbrev S28x1024 : Shape := ⟨2, ![28, 1024]⟩
abbrev S1x28x1x1024 : Shape := ⟨4, ![1, 28, 1, 1024]⟩
abbrev S16x28x64x1024 : Shape := ⟨4, ![16, 28, 64, 1024]⟩
abbrev S1x1x64x1024 : Shape := ⟨4, ![1, 1, 64, 1024]⟩
abbrev S16x1792x1024 : Shape := ⟨3, ![16, 1792, 1024]⟩

abbrev nBuf : Space → Nat
  | .hbm => 131
  | .vmem => 0
  | .smem => 0
  | _ => 0

abbrev hbmTy0_0 (i : Nat) : BufTy := match i % 128 with
  | 0 => ⟨S16, .i32⟩
  | 1 => ⟨S1x64x1024, .f32⟩
  | 2 => ⟨S20x1024, .f32⟩
  | 3 => ⟨S20x1024, .f32⟩
  | 4 => ⟨S2x1024, .f32⟩
  | 5 => ⟨S2x1024, .f32⟩
  | 6 => ⟨S1, .i32⟩
  | 7 => ⟨S_, .i32⟩
  | 8 => ⟨S28, .i32⟩
  | 9 => ⟨S_, .i32⟩
  | 10 => ⟨S1, .i32⟩
  | 11 => ⟨S_, .i32⟩
  | 12 => ⟨S28, .i32⟩
  | 13 => ⟨S1x28, .i32⟩
  | 14 => ⟨S16x28, .i32⟩
  | 15 => ⟨S16x1, .i32⟩
  | 16 => ⟨S16x28, .i32⟩
  | 17 => ⟨S_, .i32⟩
  | 18 => ⟨S16x28, .i32⟩
  | 19 => ⟨S16x28, .i1⟩
  | 20 => ⟨S_, .i32⟩
  | 21 => ⟨S16x28, .i32⟩
  | 22 => ⟨S16x28, .i32⟩
  | 23 => ⟨S16x28, .i32⟩
  | 24 => ⟨S16x28x1, .i32⟩
  | 25 => ⟨S1, .i32⟩
  | 26 => ⟨S_, .i32⟩
  | 27 => ⟨S16x28x1, .i32⟩
  | 28 => ⟨S16x28x1, .i1⟩
  | 29 => ⟨S1x1x1, .i32⟩
  | 30 => ⟨S16x28x1, .i32⟩
  | 31 => ⟨S16x28x1, .i1⟩
  | 32 => ⟨S16x28x1, .i1⟩
  | 33 => ⟨S_, .i1⟩
  | 34 => ⟨S16x28, .i1⟩
  | 35 => ⟨S16x28x1024, .f32⟩
  | 36 => ⟨S16x28x1024, .i1⟩
  | 37 => ⟨S_, .f32⟩
  | 38 => ⟨S16x28x1024, .f32⟩
  | 39 => ⟨S16x28x1024, .f32⟩
  | 40 => ⟨S16x28x1x1024, .f32⟩
  | 41 => ⟨S3, .i32⟩
  | 42 => ⟨S3x9, .i32⟩
  | 43 => ⟨S27, .i32⟩
  | 44 => ⟨S9, .i32⟩
  | 45 => ⟨S1x9, .i32⟩
  | 46 => ⟨S3x9, .i32⟩
  | 47 => ⟨S27, .i32⟩
  | 48 => ⟨S28, .i32⟩
  | 49 => ⟨S28, .i32⟩
  | 50 => ⟨S_, .i32⟩
  | 51 => ⟨S28, .i32⟩
  | 52 => ⟨S28, .i1⟩
  | 53 => ⟨S_, .i32⟩
  | 54 => ⟨S28, .i32⟩
  | 55 => ⟨S28, .i32⟩
  | 56 => ⟨S28, .i32⟩
  | 57 => ⟨S28x1, .i32⟩
  | 58 => ⟨S1, .i32⟩
  | 59 => ⟨S_, .i32⟩
  | 60 => ⟨S28x1, .i32⟩
  | 61 => ⟨S28x1, .i1⟩
  | 62 => ⟨S1x1, .i32⟩
  | 63 => ⟨S28x1, .i32⟩
  | 64 => ⟨S28x1, .i1⟩
  | 65 => ⟨S28x1, .i1⟩
  | 66 => ⟨S_, .i1⟩
  | 67 => ⟨S28, .i1⟩
  | 68 => ⟨S28x1024, .f32⟩
  | 69 => ⟨S28x1024, .i1⟩
  | 70 => ⟨S_, .f32⟩
  | 71 => ⟨S28x1024, .f32⟩
  | 72 => ⟨S28x1024, .f32⟩
  | 73 => ⟨S_, .i32⟩
  | 74 => ⟨S28, .i32⟩
  | 75 => ⟨S28, .i1⟩
  | 76 => ⟨S_, .i32⟩
  | 77 => ⟨S28, .i32⟩
  | 78 => ⟨S28, .i32⟩
  | 79 => ⟨S28, .i32⟩
  | 80 => ⟨S28x1, .i32⟩
  | 81 => ⟨S1, .i32⟩
  | 82 => ⟨S_, .i32⟩
  | 83 => ⟨S28x1, .i32⟩
  | 84 => ⟨S28x1, .i1⟩
  | 85 => ⟨S1x1, .i32⟩
  | 86 => ⟨S28x1, .i32⟩
  | 87 => ⟨S28x1, .i1⟩
  | 88 => ⟨S28x1, .i1⟩
  | 89 => ⟨S_, .i1⟩
  | 90 => ⟨S28, .i1⟩
  | 91 => ⟨S28x1024, .f32⟩
  | 92 => ⟨S28x1024, .i1⟩
  | 93 => ⟨S_, .f32⟩
  | 94 => ⟨S28x1024, .f32⟩
  | 95 => ⟨S28x1024, .f32⟩
  | 96 => ⟨S28x1024, .f32⟩
  | 97 => ⟨S1x28x1x1024, .f32⟩
  | 98 => ⟨S16x28x64x1024, .f32⟩
  | 99 => ⟨S1x1x64x1024, .f32⟩
  | 100 => ⟨S16x28x64x1024, .f32⟩
  | 101 => ⟨S16x28x64x1024, .f32⟩
  | 102 => ⟨S_, .i32⟩
  | 103 => ⟨S16x28, .i32⟩
  | 104 => ⟨S16x28, .i1⟩
  | 105 => ⟨S_, .i32⟩
  | 106 => ⟨S16x28, .i32⟩
  | 107 => ⟨S16x28, .i32⟩
  | 108 => ⟨S16x28, .i32⟩
  | 109 => ⟨S16x28x1, .i32⟩
  | 110 => ⟨S1, .i32⟩
  | 111 => ⟨S_, .i32⟩
  | 112 => ⟨S16x28x1, .i32⟩
  | 113 => ⟨S16x28x1, .i1⟩
  | 114 => ⟨S1x1x1, .i32⟩
  | 115 => ⟨S16x28x1, .i32⟩
  | 116 => ⟨S16x28x1, .i1⟩
  | 117 => ⟨S16x28x1, .i1⟩
  | 118 => ⟨S_, .i1⟩
  | 119 => ⟨S16x28, .i1⟩
  | 120 => ⟨S16x28x1024, .f32⟩
  | 121 => ⟨S16x28x1024, .i1⟩
  | 122 => ⟨S_, .f32⟩
  | 123 => ⟨S16x28x1024, .f32⟩
  | 124 => ⟨S16x28x1024, .f32⟩
  | 125 => ⟨S16x28x1x1024, .f32⟩
  | 126 => ⟨S16x28x64x1024, .f32⟩
  | 127 => ⟨S16x28x64x1024, .f32⟩
  | _ => ⟨S16, .i32⟩

abbrev hbmTy0_1 (i : Nat) : BufTy := match i % 128 with
  | 0 => ⟨S16x28x64x1024, .f32⟩
  | 1 => ⟨S16x28x64x1024, .f32⟩
  | 2 => ⟨S16x1792x1024, .f32⟩
  | _ => ⟨S16, .i32⟩

abbrev hbmTy (i : Nat) : BufTy := match i / 128 with
  | 0 => hbmTy0_0 i
  | 1 => hbmTy0_1 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v18 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩

abbrev nD : Nat := 1
abbrev τ : Topo := Topo.v7x

variable {F : FTy → Type} [FloatOps F]
-- ==== Proof.TileList.lean ====
/- The TensorCore call's body as a list of tiles: four loads, then 28 times the same steps. -/
module

public import proofs.«01_k».proof.Proof.Gen.KernelIdeal.Skeleton
public import proofs.«01_k».proof.Proof.Gen.KernelIdeal.Points
public import Idealize.ShloMosaic.Lib.VecWindow
public import Idealize.ShloMosaic.Lib.ValueLayout

@[expose] public section

noncomputable section

namespace Cert.Proof.Tiles

open Cert.KernelIdeal Cert.KernelIdeal.Gen
open Idealize.ShloMosaic Idealize.SL.Sem
open Idealize.ShloMosaic.ValueIdx

variable {F : FTy → Type} [FloatOps F]

/-- One row of the gathered array lies inside it. -/
theorem inb_c (r : ℕ) (h : r < 84) : ∀ a, (![r, 0] : Fin 2 → ℕ) a + S1x1024.size a ≤ S84x1024.size a := by
  intro a
  match a with
  | 0 => show r + 1 ≤ 84; omega
  | 1 => show 0 + 1024 ≤ 1024; omega

/-- Tile `t`'s 64 rows lie inside the output block. -/
theorem inb_o (t : ℕ) (h : t < 28) : ∀ a, (![0, 64 * t, 0] : Fin 3 → ℕ) a + S1x64x1024.size a ≤ S1x1792x1024.size a := by
  intro a
  match a with
  | 0 => show 0 + 1 ≤ 1; omega
  | 1 => show 64 * t + 64 ≤ 1792; omega
  | 2 => show 0 + 1024 ≤ 1024; omega

/-- The tile written when `k + 1` tiles are left. -/
abbrev cur (k : ℕ) : ℕ := 27 - k

variable (arg3 : Memref sig .tc .vmem S84x1024 .f32) (arg5 : Memref sig .tc .vmem S1x1792x1024 .f32)

/-- Row `r` of the gathered array is loaded. -/
abbrev loadRow (r : ℕ) (h : r < 84) (k : Vec F S1x1024 .f32 → Prog (TpuEff nD τ sig (Elt F) Λ₀ .tc) PUnit) : Prog (TpuEff nD τ sig (Elt F) Λ₀ .tc) PUnit :=
  .op (.load arg3 (Rect.unit (s := S84x1024) ![r, 0] S1x1024.size (inb_c r h)).toLoadRect (View.loadsAt_vmem h_S1x1024)) k

/-- The steps of one tile: three rows of the gathered array are loaded, the tile's place is loaded and stored. -/
abbrev oneTile (v12 : FVec F S64x1024 .f32) (t : ℕ) (h : t < 28) (k : Prog (TpuEff nD τ sig (Elt F) Λ₀ .tc) PUnit) : Prog (TpuEff nD τ sig (Elt F) Λ₀ .tc) PUnit :=
  loadRow arg3 (3 * t) (by omega) fun a => loadRow arg3 (3 * t + 1) (by omega) fun b => loadRow arg3 (3 * t + 2) (by omega) fun c =>
    .op (.load arg5 (Rect.unit (s := S1x1792x1024) ![0, 64 * t, 0] S1x64x1024.size (inb_o t h)).toLoadRect (View.loadsAt_vmem h_S1x64x1024)) fun _ =>
      .op (.store arg5 (Rect.unit (s := S1x1792x1024) ![0, 64 * t, 0] S1x64x1024.size (inb_o t h)) (k1_pay2 v12 a b c) Finset.univ
        (View.stores_vmem_bits_univ h_S1x64x1024 rfl) (.inl rfl)) fun _ => k

/-- The last `k` tiles. -/
def tiles (v12 : FVec F S64x1024 .f32) : ℕ → Prog (TpuEff nD τ sig (Elt F) Λ₀ .tc) PUnit
  | 0 => .ret ⟨⟩
  | k + 1 => oneTile arg3 arg5 v12 (cur k) (by unfold cur; omega) (tiles v12 k)

/-- The body: the image's word, the two rows of the image table and the local embedding are loaded, then the 28 tiles follow. -/
theorem body_eq (i : grid1.Coords) (arg1 : Memref sig .tc .smem S16 .i32) (harg1 : arg1.IsWhole) (arg2 : Memref sig .tc .vmem S1x64x1024 .f32) (harg2 : arg2.IsWhole)
    (harg3 : arg3.IsWhole) (arg4 : Memref sig .tc .vmem S2x1024 .f32) (harg4 : arg4.IsWhole) (harg5 : arg5.IsWhole) :
    cc1__tc_body (F := F) i arg1 harg1 arg2 harg2 arg3 harg3 arg4 harg4 arg5 harg5 =
      .op (.load arg1 (Rect.unit (s := S16) (k1_off1 i) S1.size (k1_off1_inb i)).toLoadRect (View.loadsAt_rect (View.loads_smem_one rfl numel1_S1))) fun v1 =>
        .op (.load arg4 (Rect.unit (s := S2x1024) ![0, 0] S1x1024.size inb_S2x1024_S1x1024_0_0).toLoadRect (View.loadsAt_vmem h_S1x1024)) fun v3 =>
        .op (.load arg4 (Rect.unit (s := S2x1024) ![1, 0] S1x1024.size inb_S2x1024_S1x1024_1_0).toLoadRect (View.loadsAt_vmem h_S1x1024)) fun v5 =>
        .op (.load arg2 (Rect.unit (s := S1x64x1024) ![0, 0, 0] S1x64x1024.size inb_S1x64x1024_S1x64x1024_0_0_0).toLoadRect (View.loadsAt_vmem h_S1x64x1024)) fun v8 =>
        tiles arg3 arg5 (k1_pay3 (v1 (Shape.Idx.first (numel1_S1.symm ▸ Nat.one_pos))) v3 v5 v8) 28 := rfl

/-- What the block holds: at row `64 t + l` and column `j`, row `l` of the first summand plus the sum of the tile's three gathered rows. -/
def tiled (v12 : FVec F S64x1024 .f32) (x : Vec F S84x1024 .f32) : Vec F S1x1792x1024 .f32 := fun y =>
  FloatOps.addf (v12 (ix2 ⟨(y 1).val % 64, Nat.mod_lt _ (by decide)⟩ (y 2)))
    (FloatOps.addf (FloatOps.addf (x (ix2 ⟨3 * ((y 1).val / 64), by have : (y 1).val < 1792 := (y 1).isLt; omega⟩ (y 2)))
        (x (ix2 ⟨3 * ((y 1).val / 64) + 1, by have : (y 1).val < 1792 := (y 1).isLt; omega⟩ (y 2))))
      (x (ix2 ⟨3 * ((y 1).val / 64) + 2, by have : (y 1).val < 1792 := (y 1).isLt; omega⟩ (y 2))))

/-- One tile's payload at an index. -/
theorem pay_apply (v12 : FVec F S64x1024 .f32) (a b c : Vec F S1x1024 .f32) (u : Fin 1) (l : Fin 64) (j : Fin 1024) :
    k1_pay2 v12 a b c (ix3 u l j) =
      FloatOps.addf (v12 (ix2 l j)) (FloatOps.addf (FloatOps.addf (a (ix2 (0 : Fin 1) j)) (b (ix2 (0 : Fin 1) j))) (c (ix2 (0 : Fin 1) j))) := by
  unfold k1_pay2
  refine (shapeCast_ab_1ab_apply _ _ u l j).trans ?_
  refine congrArg (FloatOps.addf (v12 (ix2 l j))) ?_
  refine (broadcastTo_1b_ab_apply _ _ l j).trans ((shapeCast_a_1a_apply _ _ 0 j).trans ?_)
  exact congrArg₂ FloatOps.addf (congrArg₂ FloatOps.addf (shapeCast_1a_a_apply a _ j) (shapeCast_1a_a_apply b _ j)) (shapeCast_1a_a_apply c _ j)

/-- The first summand at an index: the local embedding's row plus the image row that the word chooses. -/
theorem base_apply (w : BitVec 32) (a b : Vec F S1x1024 .f32) (x : Vec F S1x64x1024 .f32) (l : Fin 64) (j : Fin 1024) :
    k1_pay3 w a b x (ix2 l j) = FloatOps.addf (x (ix3 (0 : Fin 1) l j)) (if w = 0 then a (ix2 (0 : Fin 1) j) else b (ix2 (0 : Fin 1) j)) := by
  unfold k1_pay3
  refine congrArg₂ FloatOps.addf (shapeCast_1ab_ab_apply x _ l j) ?_
  refine (broadcastTo_1b_ab_apply _ _ l j).trans ((shapeCast_a_1a_apply _ _ 0 j).trans ?_)
  by_cases h : w = 0
  · rw [if_pos h]; subst h; exact shapeCast_1a_a_apply a _ j
  · rw [if_neg h]
    have hb : Scalar.cmpi .eq w 0#32 = 0#1 := by
      show BitVec.ofBool (w == 0#32) = 0#1
      rw [show (w == 0#32) = false from beq_eq_false_iff_ne.mpr h]; rfl
    refine Eq.trans (congrFun (congrArg (fun z => Scalar.select z (shapeCast S1024 a shapeCasts_S1x1024_S1024) (shapeCast S1024 b shapeCasts_S1x1024_S1024)) hb) (ix1 j)) ?_
    exact shapeCast_1a_a_apply b _ j

end Cert.Proof.Tiles

end
-- ==== Proof.CopyList.lean ====
/- The scalar subcore's program as two loops: 84 copies started in order on one semaphore, then 84 waits on it in the
   same order. Copy `n` moves one row of 1024 values into row `n` of the call's result; its source is a row of the row
   table, of the column table or of the type table, by the remainder of `n` over 3. -/
module

public import proofs.«01_k».proof.Defs
public import proofs.«01_k».proof.Proof.Gen.KernelIdeal
public import proofs.«01_k».proof.Proof.Gen.KernelIdeal.Skeleton

@[expose] public section

noncomputable section

namespace Cert.Proof.Copies

open Cert.KernelIdeal Cert.KernelIdeal.Gen
open Idealize.ShloMosaic Idealize.SL.Sem

variable {F : FTy → Type} [FloatOps F]

/-- The tile a copy serves: three copies to a tile, 28 tiles. -/
def tile (n : ℕ) : ℕ := n % 84 / 3

/-- The row of the row table that tile `t` reads: the last one for the whole-image tile, its grid row otherwise. -/
def rowOf (t : ℕ) : ℕ := if t = 27 then 19 else t / 9
/-- The row of the column table that tile `t` reads. -/
def colOf (t : ℕ) : ℕ := if t = 27 then 19 else t % 9
/-- The row of the type table that tile `t` reads. -/
def typOf (t : ℕ) : ℕ := if t = 27 then 1 else 0

theorem tile_lt (n : ℕ) : tile n < 28 := by unfold tile; omega
theorem rowOf_tile (n : ℕ) : rowOf (tile n) < 20 := by have := tile_lt n; unfold rowOf; split <;> omega
theorem colOf_tile (n : ℕ) : colOf (tile n) < 20 := by have := tile_lt n; unfold colOf; split <;> omega
theorem typOf_tile (n : ℕ) : typOf (tile n) < 2 := by unfold typOf; split <;> omega

/-- One row of a two-dimensional array lies inside it. -/
theorem inb_row {N r : ℕ} (h : r < N) :
    ∀ a, (![r, 0] : Fin 2 → ℕ) a + S1x1024.size a ≤ (⟨2, ![N, 1024]⟩ : Shape).size a := by
  intro a
  match a with
  | 0 => show r + 1 ≤ N; omega
  | 1 => show 0 + 1024 ≤ 1024; omega

abbrev rowW : Memref sig .scScalar .hbm S20x1024 .f32 := Memref.whole main_arg2_scs
abbrev colW : Memref sig .scScalar .hbm S20x1024 .f32 := Memref.whole main_arg3_scs
abbrev typW : Memref sig .scScalar .hbm S2x1024 .f32 := Memref.whole main_arg5_scs
abbrev outW : Memref sig .scScalar .hbm S84x1024 .f32 := Memref.whole main_v0_scs

/-- Row `r` of an `N`-row table, as a vector of 1024 values. -/
def rowMem {N : ℕ} (w : Memref sig .scScalar .hbm (⟨2, ![N, 1024]⟩ : Shape) .f32) (r : ℕ) (h : r < N) :
    Memref sig .scScalar .hbm S1024 .f32 :=
  (w.slice (Rect.unit (s := (⟨2, ![N, 1024]⟩ : Shape)) ![r, 0] S1x1024.size (inb_row h)) (fun _ => rfl)).squeeze S1024 squeezes_S1x1024_S1024

/-- Where copy `n` lands: row `n` of the result. -/
def dst (n : ℕ) : Memref sig .scScalar .hbm S1024 .f32 := rowMem outW (n % 84) (Nat.mod_lt _ (by decide))

/-- What copy `n` reads. -/
def src (n : ℕ) : Memref sig .scScalar .hbm S1024 .f32 :=
  if n % 3 = 0 then rowMem rowW (rowOf (tile n)) (rowOf_tile n)
  else if n % 3 = 1 then rowMem colW (colOf (tile n)) (colOf_tile n)
  else rowMem typW (typOf (tile n)) (typOf_tile n)

theorem exact (v : Memref sig .scScalar .hbm S1024 .f32) : v.view.WordExact := View.wordExact_bits rfl

variable {c : Fin τ.nSC}

/-- Start the last `k` of the 84 copies in order, then go on with `p`. -/
def starts (p : Prog (TpuEff nD τ sig (Elt F) Λ₀ (.scScalar c)) PUnit) : ℕ → Prog (TpuEff nD τ sig (Elt F) Λ₀ (.scScalar c)) PUnit
  | 0 => p
  | k + 1 => .op (.enqueueDma (src (83 - k)) (.here (dst (83 - k))) (.dma cc0_scratch0.sem) (exact _) (exact _) ⟨Or.inl rfl, trivial⟩)
      fun _ => starts p k

/-- Wait for the last `k` of the 84 copies in order, then return. -/
def waits : ℕ → Prog (TpuEff nD τ sig (Elt F) Λ₀ (.scScalar c)) PUnit
  | 0 => .ret ⟨⟩
  | k + 1 => .op (.waitDma2 cc0_scratch0.sem (src (83 - k)) (dst (83 - k)) (exact _) (exact _)) fun _ => waits k

set_option maxRecDepth 65536 in
/-- The printed program is the 84 starts followed by the 84 waits. -/
theorem body_eq (i : grid0.Coords) :
    cc0_sc_fn (F := F) i rowW (Memref.isWhole_whole _) colW (Memref.isWhole_whole _) typW (Memref.isWhole_whole _)
      outW (Memref.isWhole_whole _) cc0_scratch0 = starts (waits 84) 84 := rfl

end Cert.Proof.Copies

end
-- ==== Proof.Setup.lean ====
/- The program as the launch theorem reads it: its configuration, the ghost state, the arrays and what the one
   SparseCore call takes and brings back. -/
module

public import proofs.«01_k».proof.Proof.CopyList
public import Idealize.ShloMosaic.Lib.SparseCore.Quiescent
public import Idealize.ShloMosaic.Lib.Transfers
public import Idealize.ShloMosaic.Lib.Batch
public import Idealize.ShloMosaic.Lib.ValueIdxCore

@[expose] public section

noncomputable section

namespace Cert.Proof.Copies

open Cert.KernelIdeal Cert.KernelIdeal.Gen
open Idealize.ShloMosaic
open Idealize.ShloMosaic.ValueIdx (ix1 ix2 eq_ix1 eq_ix2)
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and the SparseCores' buffers. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := by decide
  noSeq := fun _ => rfl

/-- The handshakes' ghost state, the pipeline's, and the copies' counters. -/
abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

variable (m : (ℓ : Loc nD τ sig) → Buf (Elt F) ℓ) (ρ : Dev nD → PrngReg)

/-- The row, column and type tables, and the array the copies fill. -/
abbrev rowLoc (d : Dev nD) : Loc nD τ sig := (SparseCore.T d).loc main_arg2
abbrev colLoc (d : Dev nD) : Loc nD τ sig := (SparseCore.T d).loc main_arg3
abbrev typLoc (d : Dev nD) : Loc nD τ sig := (SparseCore.T d).loc main_arg5
abbrev outLoc (d : Dev nD) : Loc nD τ sig := (SparseCore.T d).loc main_v0

/-- The value copy `n` moves at column `j`. -/
def val (d : Dev nD) (n : ℕ) (j : Fin 1024) : Elt F .f32 :=
  if n % 3 = 0 then m (rowLoc d) (ix2 ⟨rowOf (tile n), rowOf_tile n⟩ j)
  else if n % 3 = 1 then m (colLoc d) (ix2 ⟨colOf (tile n), colOf_tile n⟩ j)
  else m (typLoc d) (ix2 ⟨typOf (tile n), typOf_tile n⟩ j)

/-- What the array holds after the copies: row `n` is what copy `n` moved. -/
def gathered (d : Dev nD) : Buf (Elt F) (outLoc d) := fun i : S84x1024.Idx => val m d (i 0).val (i 1)

/-- Some read share of an array at contents `f`. -/
def someShare (ℓ : Loc nD τ sig) (f : Buf (Elt F) ℓ) : sProp 𝕄 := iprop(∃ q, ℓ ↦{q} f)

instance someShare_storable (ℓ : Loc nD τ sig) (f : Buf (Elt F) ℓ) : BI.Storable (upEmb : UEmb _ 𝕄) (someShare ℓ f) := by
  unfold someShare; infer_instance

/-- Read shares of the three tables at their launch contents. -/
abbrev tables (d : Dev nD) : sProp 𝕄 :=
  iprop(someShare (rowLoc d) (m (rowLoc d)) ∗ someShare (colLoc d) (m (colLoc d)) ∗ someShare (typLoc d) (m (typLoc d)))

/-- The call takes read shares of the tables and the result array, and brings back the array filled. -/
def P : (K (F := F)).Pay (nD := nD) (Val := Elt F) (Name := ℕ) (U := UU) where
  st := fun _ d _ => iprop(tables m d ∗ ∃ f, outLoc d ↦{fullShare} f)
  dn := fun _ d _ => iprop(outLoc d ↦{fullShare} gathered m d)
  go := fun _ _ _ _ => iprop(emp)
  td := fun _ _ _ _ => iprop(emp)
  x := fun _ _ => iprop(emp)

instance P_storable : (P (F := F) m).IsStorable where
  st _ d _ := (inferInstance : BI.Storable (upEmb : UEmb _ 𝕄) iprop(tables m d ∗ ∃ f, outLoc d ↦{fullShare} f))
  dn _ d _ := (inferInstance : BI.Storable (upEmb : UEmb _ 𝕄) iprop(outLoc d ↦{fullShare} gathered m d))
  go _ _ _ _ := (inferInstance : BI.Storable (upEmb : UEmb _ 𝕄) (iprop(emp) : sProp 𝕄))
  td _ _ _ _ := (inferInstance : BI.Storable (upEmb : UEmb _ 𝕄) (iprop(emp) : sProp 𝕄))

end Cert.Proof.Copies

end
-- ==== Proof.TileRun.lean ====
/- The run of the TensorCore call's body: from its four inputs' blocks to the output block. -/
module

public import proofs.«01_k».proof.Proof.TileList
public import proofs.«01_k».proof.Proof.Setup
public import Idealize.ShloMosaic.Lib.Pipeline.FrameBody
public import Idealize.ShloMosaic.Lib.Writes

@[expose] public section

noncomputable section

namespace Cert.Proof.Tiles

open Cert.KernelIdeal Cert.KernelIdeal.Gen Cert.Proof.Copies
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A row of the gathered array as the tile's store uses it. -/
theorem row_apply (x : Vec F S84x1024 .f32) (r : ℕ) (h : r < 84) (j : Fin 1024) :
    View.ld x (Rect.unit (s := S84x1024) ![r, 0] S1x1024.size (inb_c r h)) (ix2 (0 : Fin 1) j) = x (ix2 ⟨r, h⟩ j) := by
  refine congrArg x (funext fun a => Fin.ext ?_)
  match a with
  | 0 => show r + 1 * 0 = r; omega
  | 1 => show 0 + 1 * j.val = j.val; omega

/-- The block with tile `t` stored over it: the tile's rows hold their values, the others what they held. -/
theorem put_apply (v12 : FVec F S64x1024 .f32) (x : Vec F S84x1024 .f32) (g : Vec F S1x1792x1024 .f32) (t : ℕ) (h : t < 28) (y : S1x1792x1024.Idx)
    (hg : (y 1).val / 64 < t → g y = tiled v12 x y) (hy : (y 1).val / 64 < t + 1) :
    VecWindow.put g ![0, 64 * t, 0] S1x64x1024.size
      (k1_pay2 v12 (View.ld x (Rect.unit (s := S84x1024) ![3 * t, 0] S1x1024.size (inb_c _ (by omega))))
        (View.ld x (Rect.unit (s := S84x1024) ![3 * t + 1, 0] S1x1024.size (inb_c _ (by omega))))
        (View.ld x (Rect.unit (s := S84x1024) ![3 * t + 2, 0] S1x1024.size (inb_c _ (by omega))))) y = tiled v12 x y := by
  unfold VecWindow.put
  by_cases hc : ∀ a, (![0, 64 * t, 0] : Fin 3 → ℕ) a ≤ (y a).val ∧ (y a).val < (![0, 64 * t, 0] : Fin 3 → ℕ) a + S1x64x1024.size a
  · rw [dif_pos hc]
    have h1 : 64 * t ≤ (y 1).val ∧ (y 1).val < 64 * t + 64 := hc 1
    have hq : (y 1).val / 64 = t := by omega
    have hz : Rect.unitLocal (s := S1x1792x1024) (off := ![0, 64 * t, 0]) (size := S1x64x1024.size) y hc
        = (ix3 (0 : Fin 1) ⟨(y 1).val % 64, Nat.mod_lt _ (by decide)⟩ (y 2) : S1x64x1024.Idx) := by
      funext a
      refine Fin.ext ?_
      match a with
      | 0 => have h0 : (y 0).val < 1 := (y 0).isLt
             show (y 0).val - 0 = 0; omega
      | 1 => show (y 1).val - 64 * t = (y 1).val % 64; omega
      | 2 => show (y 2).val - 0 = (y 2).val; omega
    refine (congrArg _ hz).trans ((pay_apply _ _ _ _ _ _ _).trans ?_)
    unfold tiled
    subst hq
    exact congrArg (FloatOps.addf _) (congrArg₂ FloatOps.addf (congrArg₂ FloatOps.addf (row_apply x _ _ _) (row_apply x _ _ _)) (row_apply x _ _ _))
  · rw [dif_neg hc]
    refine hg ?_
    by_contra hlt
    refine hc fun a => ?_
    match a with
    | 0 => have h0 : (y 0).val < 1 := (y 0).isLt
           show 0 ≤ (y 0).val ∧ (y 0).val < 0 + 1; omega
    | 1 => show 64 * t ≤ (y 1).val ∧ (y 1).val < 64 * t + 64; omega
    | 2 => have h2 : (y 2).val < 1024 := (y 2).isLt
           show 0 ≤ (y 2).val ∧ (y 2).val < 0 + 1024; omega

variable (c : Dev nD) (E : Set ℕ)

/-- The last `k` tiles, the earlier ones in place: the block ends holding every tile. -/
theorem tiles_run (arg3 : Memref sig .tc .vmem S84x1024 .f32) (arg5 : Memref sig .tc .vmem S1x1792x1024 .f32) (v12 : FVec F S64x1024 .f32) (x : Vec F S84x1024 .f32)
    (Q : PUnit → sProp 𝕄) (k : ℕ) : k ≤ 28 → ∀ (f : Buf (Elt F) (arg3.view.loc (SparseCore.T c))) (g : Buf (Elt F) (arg5.view.loc (SparseCore.T c))),
    arg3.view.read (Elt F) f = x → (∀ y : S1x1792x1024.Idx, (y 1).val / 64 < 28 - k → arg5.view.read (Elt F) g y = tiled v12 x y) →
    iprop((arg3.view.loc (SparseCore.T c) ↦[arg3.view.set]{fullShare} f) ∗ (arg5.view.loc (SparseCore.T c) ↦[arg5.view.set]{fullShare} g)
      ∗ ((owns (SparseCore.T c) arg3 fullShare x ∗ owns (SparseCore.T c) arg5 fullShare (tiled v12 x)) -∗ Q ⟨⟩))
    ⊢ wp frame (wpE (defs₀ (F := F)) Variants.none (SparseCore.T c) none) E (tiles arg3 arg5 v12 k) Q := by
  induction k with
  | zero =>
    intro _ f g hf hg
    show _ ⊢ wp frame _ _ (Prog.ret PUnit.unit) _
    rw [wp_ret]
    iintro ⟨H3, H5, Hk⟩
    imodintro
    iapply Hk
    unfold owns
    isplitl [H3]
    · iexists f; isplitr
      · ipureintro; exact hf
      iexact H3
    iexists g; isplitr
    · ipureintro
      funext y
      exact hg y (by have : (y 1).val < 1792 := (y 1).isLt; omega)
    iexact H5
  | succ k ih =>
    intro hk f g hf hg
    have ht : cur k < 28 := by unfold cur; omega
    have hput : ∀ y : S1x1792x1024.Idx, (y 1).val / 64 < 28 - k →
        arg5.view.read (Elt F) (arg5.view.writes (Elt F) g [⟨Rect.unit (s := S1x1792x1024) ![0, 64 * cur k, 0] S1x64x1024.size (inb_o (cur k) ht),
          k1_pay2 v12 (arg3.view.readAt (Elt F) (Rect.unit (s := S84x1024) ![3 * cur k, 0] S1x1024.size (inb_c _ (by omega))).toLoadRect f)
            (arg3.view.readAt (Elt F) (Rect.unit (s := S84x1024) ![3 * cur k + 1, 0] S1x1024.size (inb_c _ (by omega))).toLoadRect f)
            (arg3.view.readAt (Elt F) (Rect.unit (s := S84x1024) ![3 * cur k + 2, 0] S1x1024.size (inb_c _ (by omega))).toLoadRect f)⟩]) y = tiled v12 x y := by
      intro y hy
      subst hf
      exact (congrFun (View.read_writes_cons_put arg5.view g _ _ [] rfl) y).trans
        (put_apply v12 _ _ (cur k) ht y (fun h => hg y (by unfold cur at h; omega)) (by unfold cur; omega))
    show _ ⊢ wp frame _ _ (oneTile arg3 arg5 v12 (cur k) ht (tiles arg3 arg5 v12 k)) _
    iintro ⟨H3, H5, Hk⟩
    iapply (wp_load Variants.none (SparseCore.T c) none E (View.setOn_subset_set _ _)) $$ H3
    iintro H3
    iapply (wp_load Variants.none (SparseCore.T c) none E (View.setOn_subset_set _ _)) $$ H3
    iintro H3
    iapply (wp_load Variants.none (SparseCore.T c) none E (View.setOn_subset_set _ _)) $$ H3
    iintro H3
    iapply (wp_load Variants.none (SparseCore.T c) none E (View.setOn_subset_set _ _)) $$ H5
    iintro H5
    iapply (wp_store_writes₀ Variants.none (SparseCore.T c) none E (View.set_slice_subset _ _)) $$ H5
    iintro H5
    iapply (ih (by omega) f _ hf hput)
    isplitl [H3]; · iexact H3
    isplitl [H5]; · iexact H5
    iexact Hk

/-- The image's word: the entry of the time vector at the grid point. -/
def word (i : grid1.Coords) (x0 : Vec F S16 .i32) : BitVec 32 :=
  x0 ((Rect.unit (s := S16) (k1_off1 i) S1.size (k1_off1_inb i)).emb (Shape.Idx.first (numel1_S1.symm ▸ Nat.one_pos)))

/-- The block the body leaves, from its inputs' blocks. -/
def block (i : grid1.Coords) (x0 : Vec F S16 .i32) (x1 : Vec F S1x64x1024 .f32) (x2 : Vec F S84x1024 .f32) (x3 : Vec F S2x1024 .f32) : Vec F S1x1792x1024 .f32 :=
  tiled (k1_pay3 (word i x0) (View.ld x3 (Rect.unit (s := S2x1024) ![0, 0] S1x1024.size inb_S2x1024_S1x1024_0_0))
    (View.ld x3 (Rect.unit (s := S2x1024) ![1, 0] S1x1024.size inb_S2x1024_S1x1024_1_0))
    (View.ld x1 (Rect.unit (s := S1x64x1024) ![0, 0, 0] S1x64x1024.size inb_S1x64x1024_S1x64x1024_0_0_0))) x2

/-- The body's run: its inputs are read and left, and the output block ends at `block`, whatever it held. -/
theorem body_run (i : grid1.Coords) (arg1 : Memref sig .tc .smem S16 .i32) (harg1 : arg1.IsWhole) (arg2 : Memref sig .tc .vmem S1x64x1024 .f32) (harg2 : arg2.IsWhole)
    (arg3 : Memref sig .tc .vmem S84x1024 .f32) (harg3 : arg3.IsWhole) (arg4 : Memref sig .tc .vmem S2x1024 .f32) (harg4 : arg4.IsWhole)
    (arg5 : Memref sig .tc .vmem S1x1792x1024 .f32) (harg5 : arg5.IsWhole)
    (x0 : Vec F S16 .i32) (x1 : Vec F S1x64x1024 .f32) (x2 : Vec F S84x1024 .f32) (x3 : Vec F S2x1024 .f32) (Q : PUnit → sProp 𝕄) :
    iprop(owns (SparseCore.T c) arg1 fullShare x0 ∗ owns (SparseCore.T c) arg2 fullShare x1 ∗ owns (SparseCore.T c) arg3 fullShare x2 ∗ owns (SparseCore.T c) arg4 fullShare x3
      ∗ (∃ d, owns (SparseCore.T c) arg5 fullShare d)
      ∗ ((owns (SparseCore.T c) arg1 fullShare x0 ∗ owns (SparseCore.T c) arg2 fullShare x1 ∗ owns (SparseCore.T c) arg3 fullShare x2 ∗ owns (SparseCore.T c) arg4 fullShare x3
          ∗ owns (SparseCore.T c) arg5 fullShare (block i x0 x1 x2 x3)) -∗ Q ⟨⟩))
    ⊢ wp frame (wpE (defs₀ (F := F)) Variants.none (SparseCore.T c) none) E (cc1__tc_body (F := F) i arg1 harg1 arg2 harg2 arg3 harg3 arg4 harg4 arg5 harg5) Q := by
  rw [body_eq]
  have ho : ∀ {sp : Space} {s : Shape} {e : EltTy} (a : Memref sig .tc sp s e) (x : s.Idx → Elt F e),
      (owns (SparseCore.T c) a fullShare x : sProp 𝕄) = iprop(∃ f, ⌜a.view.read (Elt F) f = x⌝ ∗ (a.view.loc (SparseCore.T c) ↦[a.view.set]{fullShare} f)) := fun _ _ => rfl
  rw [ho arg1, ho arg2, ho arg3, ho arg4]
  iintro ⟨⟨%f1, %h1, H1⟩, ⟨%f2, %h2, H2⟩, ⟨%f3, %h3, H3⟩, ⟨%f4, %h4, H4⟩, ⟨%d5, Hd⟩, Hk⟩
  ihave Hd' := (Entails.of_eq (ho arg5 d5)) $$ Hd
  icases Hd' with ⟨%f5, -, H5⟩
  iapply (wp_load Variants.none (SparseCore.T c) none E (View.setOn_subset_set _ _)) $$ H1
  iintro H1
  iapply (wp_load Variants.none (SparseCore.T c) none E (View.setOn_subset_set _ _)) $$ H4
  iintro H4
  iapply (wp_load Variants.none (SparseCore.T c) none E (View.setOn_subset_set _ _)) $$ H4
  iintro H4
  iapply (wp_load Variants.none (SparseCore.T c) none E (View.setOn_subset_set _ _)) $$ H2
  iintro H2
  iapply (tiles_run c E arg3 arg5 _ x2 Q 28 (le_refl _) f3 f5 h3 (fun y hy => absurd hy (by omega)))
  isplitl [H3]; · iexact H3
  isplitl [H5]; · iexact H5
  iintro ⟨H3, H5⟩
  ihave H3' := (Entails.of_eq (ho arg3 x2)) $$ H3
  iapply Hk
  isplitl [H1]
  · iexists f1; isplitr
    · ipureintro; exact h1
    iexact H1
  isplitl [H2]
  · iexists f2; isplitr
    · ipureintro; exact h2
    iexact H2
  isplitl [H3']; · iexact H3'
  isplitl [H4]
  · iexists f4; isplitr
    · ipureintro; exact h4
    iexact H4
  subst h1 h2 h3 h4
  iexact H5

end Cert.Proof.Tiles

end
-- ==== Proof.Region.lean ====
/- The TensorCore call as a region of the main function: what its windows stage, what the body leaves, and the
   states of the core before and after it. -/
module

public import proofs.«01_k».proof.Proof.TileRun
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof.Tiles

open Cert.KernelIdeal Cert.KernelIdeal.Gen Cert.Proof.Copies
open Idealize.ShloMosaic Idealize.ShloMosaic.TcCoe Idealize.ShloMosaic.ValueIdx
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The windows' arrays when the region is entered: as launched, but for the array the copies have filled. -/
def entry (c : Dev nD) : (w : Fin cfg1.W) → Buf (Elt F) ((cfg1.win w).arr.view.loc (c.tc : Thread nD τ))
  | ⟨0, _⟩ => m ((c.tc : Thread nD τ).loc main_arg0)
  | ⟨1, _⟩ => m ((c.tc : Thread nD τ).loc main_arg1)
  | ⟨2, _⟩ => gathered m c
  | ⟨3, _⟩ => m ((c.tc : Thread nD τ).loc main_arg4)
  | ⟨4, _⟩ => m ((c.tc : Thread nD τ).loc main_v1)
  | ⟨_ + 5, h⟩ => absurd h (Nat.not_lt.2 (Nat.le_add_left _ _))

/-- The block of an array that the window stages at a point. -/
def staged (c : Dev nD) (w : Fin cfg1.W) (t : Fin cfg1.N) : ((cfg1.win w).xblock (cfg1.grid.coords t)).Idx → Elt F (cfg1.win w).elt :=
  ((cfg1.win w).blk t).view.read (Elt F) (entry m c w)

/-- What the body leaves in the result's staging buffer at a point. -/
def produced (c : Dev nD) (t : Fin cfg1.N) : Vec F S1x1792x1024 .f32 :=
  block (grid1.coords t) (staged m c 0 t) (staged m c 1 t) (staged m c 2 t) (staged m c 3 t)

/-- The pairs the core may have recorded by the time the region runs: those of the one call before it. -/
def seen (c : Dev nD) : Set (SemLoc sig × HIx 1) := {p | (K (F := F)).lev (SparseCore.T c, p.1) p.2 ≤ 8}

/-- The region's proof data: the arrays at entry, what each staging buffer holds after the body, nothing owed. -/
def dats (_ : Fin 1) (c : Dev nD) : Dat τ (Elt F) (HIx 1) ℕ UU ℕ cfg1 c where
  A := entry m c
  after w t := match w with
    | ⟨0, _⟩ => staged m c 0 t
    | ⟨1, _⟩ => staged m c 1 t
    | ⟨2, _⟩ => staged m c 2 t
    | ⟨3, _⟩ => staged m c 3 t
    | ⟨4, _⟩ => produced m c t
    | ⟨_ + 5, h⟩ => absurd h (Nat.not_lt.2 (Nat.le_add_left _ _))
  Φ _ := Pipeline.scopedRest spec1 c
  q _ := fullShare
  owed _ := 0
  recorded _ := seen (F := F) c

theorem dats_A (c : Dev nD) (w : Fin cfg1.W) : (dats m 0 c).A w = entry m c w := by dsimp only [dats]

theorem after_0 (c : Dev nD) (t : Fin cfg1.N) : (dats m 0 c).after 0 t = staged m c 0 t := by dsimp only [dats]
theorem after_1 (c : Dev nD) (t : Fin cfg1.N) : (dats m 0 c).after 1 t = staged m c 1 t := by dsimp only [dats]
theorem after_2 (c : Dev nD) (t : Fin cfg1.N) : (dats m 0 c).after 2 t = staged m c 2 t := by dsimp only [dats]
theorem after_3 (c : Dev nD) (t : Fin cfg1.N) : (dats m 0 c).after 3 t = staged m c 3 t := by dsimp only [dats]
theorem after_4 (c : Dev nD) (t : Fin cfg1.N) : (dats m 0 c).after 4 t = produced m c t := by dsimp only [dats]

/-- An input window whose body leaves the block in place holds its block at every point. -/
theorem blockOf_eq (c : Dev nD) (w : Fin cfg1.W) (t : Fin cfg1.N) : (dats m 0 c).blockOf w t = staged m c w t := by
  unfold Dat.blockOf staged; rw [dats_A]

theorem before_0 (c : Dev nD) (t : Fin cfg1.N) (d) : (dats m 0 c).before 0 t d = staged m c 0 t :=
  ((dats m 0 c).before_in_eq_fetched 0 rfl (fun _ => rfl) (fun _ _ _ => rfl) (fun t => by rw [after_0, blockOf_eq]) t d).trans
    (by unfold Dat.fetched; rw [blockOf_eq]; rfl)
theorem before_1 (c : Dev nD) (t : Fin cfg1.N) (d) : (dats m 0 c).before 1 t d = staged m c 1 t :=
  ((dats m 0 c).before_in_eq_fetched 1 rfl (fun _ => rfl) (fun _ _ _ => rfl) (fun t => by rw [after_1, blockOf_eq]) t d).trans
    (by unfold Dat.fetched; rw [blockOf_eq]; rfl)
theorem before_2 (c : Dev nD) (t : Fin cfg1.N) (d) : (dats m 0 c).before 2 t d = staged m c 2 t :=
  ((dats m 0 c).before_in_eq_fetched 2 rfl (fun _ => rfl) (fun _ _ _ => rfl) (fun t => by rw [after_2, blockOf_eq]) t d).trans
    (by unfold Dat.fetched; rw [blockOf_eq]; rfl)
theorem before_3 (c : Dev nD) (t : Fin cfg1.N) (d) : (dats m 0 c).before 3 t d = staged m c 3 t :=
  ((dats m 0 c).before_in_eq_fetched 3 rfl (fun _ => rfl) (fun _ _ _ => rfl) (fun t => by rw [after_3, blockOf_eq]) t d).trans
    (by unfold Dat.fetched; rw [blockOf_eq]; rfl)

/-- The body table's row of the region's kernel is the printed body at the point's staging buffers. -/
theorem row_eq (t : Fin cfg1.N) : defs₀ (F := F) .tc cfg1.body (cfg1.bodyArgs t (cfg1.slots t)) = bodyAt1 (F := F) t := rfl

/-- At every point the body takes the staged blocks to the block it produces, and records no wait. -/
theorem body_obligation (c : Dev nD) : BodyObligation (dats m 0 c) (defs₀ (F := F)) Variants.none (none : HIx 1) Set.univ := fun t => by
  rw [bigSep_W1, bigSep_W1, row_eq]
  show iprop((dats m 0 c).Φ t.castSucc ∗ (dats m 0 c).owesAt none t.castSucc
      ∗ (∃ d, owns (c : Thread nD τ) (st1_0 t) fullShare ((dats m 0 c).before 0 t d)) ∗ (∃ d, owns (c : Thread nD τ) (st1_1 t) fullShare ((dats m 0 c).before 1 t d))
      ∗ (∃ d, owns (c : Thread nD τ) (st1_2 t) fullShare ((dats m 0 c).before 2 t d)) ∗ (∃ d, owns (c : Thread nD τ) (st1_3 t) fullShare ((dats m 0 c).before 3 t d))
      ∗ (∃ d, owns (c : Thread nD τ) (st1_4 t) fullShare ((dats m 0 c).before 4 t d)))
    ⊢ wp frame (wpE (defs₀ (F := F)) Variants.none (c : Thread nD τ) none) Set.univ (bodyAt1 t) fun _ =>
      iprop((dats m 0 c).Φ t.succ ∗ (dats m 0 c).owesAt none t.succ
      ∗ owns (c : Thread nD τ) (st1_0 t) fullShare ((dats m 0 c).after 0 t) ∗ owns (c : Thread nD τ) (st1_1 t) fullShare ((dats m 0 c).after 1 t)
      ∗ owns (c : Thread nD τ) (st1_2 t) fullShare ((dats m 0 c).after 2 t) ∗ owns (c : Thread nD τ) (st1_3 t) fullShare ((dats m 0 c).after 3 t)
      ∗ owns (c : Thread nD τ) (st1_4 t) fullShare ((dats m 0 c).after 4 t))
  simp only [before_0, before_1, before_2, before_3]
  rw [after_0, after_1, after_2, after_3, after_4, show (dats m 0 c).Φ t.succ = (dats m 0 c).Φ t.castSucc from rfl,
    show (dats m 0 c).owesAt none t.succ = (dats m 0 c).owesAt none t.castSucc from rfl]
  iintro ⟨HΦ, HO, ⟨%d0, H0⟩, ⟨%d1, H1⟩, ⟨%d2, H2⟩, ⟨%d3, H3⟩, ⟨%d4, H4⟩⟩
  iapply (body_run c Set.univ (grid1.coords t) _ _ _ _ _ _ _ _ _ _ (staged m c 0 t) (staged m c 1 t) (staged m c 2 t) (staged m c 3 t))
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- No pipeline of the program prefetches a table. -/
abbrev adm : (p : Fin 1) → (pcfgs (F := F) p).Adm := fun p => (cfgs p).toPCfg_adm

/-- The core owing nothing, with recorded pairs no higher than the first call's. -/
def settled (c : Dev nD) : sProp 𝕄 :=
  iprop(∃ W, ⌜(K (F := F)).WBelow (SparseCore.T c) W 8⌝ ∗ owes (SparseCore.T c) (0 : CellTallies nD τ sig (HIx 1)) W)

set_option backward.isDefEq.respectTransparency.types false in
/-- The region: entered from its windows' arrays and the settled core, left with the arrays at what the write-backs
    make of them and the core settled as before. -/
def region : Pipeline.RegionSeg (pcfgs (F := F)) adm (dats m) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ _ _ 0 fun _ _ => rfl
  pre c := iprop((dats m 0 c).arrays ((dats m 0 c).arrAt · 0) ∗ settled (F := F) c)
  post c := iprop((dats m 0 c).arrays ((dats m 0 c).arrAt · cfg1.N) ∗ settled (F := F) c)
  X _ := iprop(emp)
  Y _ := iprop(emp)
  Z _ := iprop(emp)
  hentry c := by
    rw [Pipeline.ownSems0_none, Pipeline.prefHeld_of_none _ rfl]
    unfold settled Dat.owesAt Pipeline.owesWithin
    iintro ⟨⟨Ha, ⟨%W, %hW, HO⟩⟩, -, -⟩
    imodintro
    isplitl [Ha]; · iexact Ha
    isplitr; · iempintro
    isplitl [HO]
    · iexists W; isplitr; · ipureintro; exact fun p hp => Or.inl (hW p hp)
      iexact HO
    isplitr <;> iempintro
  hin c := by
    show _ ⊢ Pipeline.scopedRest spec1 c
    iintro ⟨-, -, Hr⟩
    iexact Hr
  hout c := by
    rw [Pipeline.ownSems0_none]
    show Pipeline.scopedRest spec1 c ⊢ _
    iintro Hr
    isplitr; · iempintro
    isplitr; · iempintro
    iexact Hr
  hexit c := by
    unfold settled Dat.owesAt Pipeline.owesWithin
    iintro ⟨Ha, ⟨%W, %hW, HO⟩, -, -⟩
    imodintro
    isplitl [Ha]; · iexact Ha
    iexists W; isplitr
    · ipureintro
      intro p hp
      rcases hW hp with h | ⟨w, s, rfl⟩
      · exact h
      · exact Nat.zero_le _
    iexact HO

end Cert.Proof.Tiles

end
-- ==== Proof.ScBody.lean ====
/- The scalar subcore's run: from read shares of the three tables and the result array, the 84 copies and their waits
   leave the array holding in row `n` what copy `n` moved. Each start takes its source's row off a table's read share and
   its own row of the result; the last wait hands every row back. -/
module

public import proofs.«01_k».proof.Proof.Setup

@[expose] public section

noncomputable section

namespace Cert.Proof.Copies

open Cert.KernelIdeal Cert.KernelIdeal.Gen
open Idealize.ShloMosaic
open Idealize.ShloMosaic.ValueIdx (ix1 ix2 eq_ix1 eq_ix2)
open Idealize.ShloMosaic.SparseCore (S V T)
open Idealize.ShloMosaic.SparseCore.Cfg (HIx Pay ownSems0 ownCells mem_ownCells)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (c : Fin τ.nSC)

/-! ## One row of a table -/

/-- The row's element at column `j` is the table's element at that row and column. -/
theorem rowMem_emb (N : ℕ) (w : Memref sig .scScalar .hbm (⟨2, ![N, 1024]⟩ : Shape) .f32) (r : ℕ) (h : r < N) (x : S1024.Idx) :
    (rowMem w r h).view.emb x = w.view.emb (ix2 ⟨r, h⟩ (x 0)) := by
  show w.view.emb ((Rect.unit (s := (⟨2, ![N, 1024]⟩ : Shape)) ![r, 0] S1x1024.size (inb_row h)).emb
      (Shape.reshapeEquiv (s := S1x1024) (s' := S1024) _ x)) = _
  rw [Shape.reshapeEquiv_cons_one]
  congr 1
  funext a
  match a with
  | 0 => exact Fin.ext (show r + 1 * 0 = r by omega)
  | 1 => exact Fin.ext (show 0 + 1 * (x 0).val = (x 0).val by omega)

/-- A start can take its source: a read share of the table gives one of the row, and a read share stays. -/
theorem rowMem_share (N : ℕ) (w : Memref sig .scScalar .hbm (⟨2, ![N, 1024]⟩ : Shape) .f32) (r : ℕ) (h : r < N)
    (f : Buf (Elt F) (w.view.loc (S d c))) :
    (someShare (w.view.loc (S d c)) f : sProp 𝕄) ⊢ iprop(someShare (w.view.loc (S d c)) f
      ∗ ∃ q, (rowMem w r h).view.loc (S d c) ↦[(rowMem w r h).view.set]{q} f) := by
  unfold someShare
  iintro ⟨%q, H⟩
  ihave H' := (pointsTo_share (PosShare.mem_left_op_right q)).1 $$ H
  icases H' with ⟨Hl, Hr⟩
  ihave Hs := (pointsTo_split_subset (I := (rowMem w r h).view.set) (Finset.subset_univ _)).1 $$ Hr
  icases Hs with ⟨Hs, -⟩
  isplitl [Hl]
  · iexists _; iexact Hl
  · iexists _; iexact Hs

/-- The source `M` can be taken off the tables, and reads as `v`. -/
def Reads (M : Memref sig .scScalar .hbm S1024 .f32) (v : Fin 1024 → Elt F .f32) : Prop :=
  (tables m d : sProp 𝕄) ⊢ iprop(tables m d ∗ ∃ q fs, ⌜∀ x : S1024.Idx, M.view.read (Elt F) fs x = v (x 0)⌝
      ∗ (M.view.loc (S d c) ↦[M.view.set]{q} fs))

theorem reads_row (r : ℕ) (h : r < 20) : Reads m d c (rowMem rowW r h) fun j => m (rowLoc d) (ix2 ⟨r, h⟩ j) := by
  unfold Reads
  iintro ⟨Hr, Hc, Ht⟩
  ihave H := (rowMem_share d c 20 rowW r h (m (rowLoc d))) $$ Hr
  icases H with ⟨Hr, %q, H⟩
  isplitr [H]
  · isplitl [Hr]; · iexact Hr
    isplitl [Hc]; · iexact Hc
    iexact Ht
  iexists q, (m (rowLoc d)); isplitr
  · ipureintro; exact fun x => congrArg (m (rowLoc d)) (show _ = (ix2 ⟨r, h⟩ (x 0) : S20x1024.Idx) from rowMem_emb 20 rowW r h x)
  iexact H

theorem reads_col (r : ℕ) (h : r < 20) : Reads m d c (rowMem colW r h) fun j => m (colLoc d) (ix2 ⟨r, h⟩ j) := by
  unfold Reads
  iintro ⟨Hr, Hc, Ht⟩
  ihave H := (rowMem_share d c 20 colW r h (m (colLoc d))) $$ Hc
  icases H with ⟨Hc, %q, H⟩
  isplitr [H]
  · isplitl [Hr]; · iexact Hr
    isplitl [Hc]; · iexact Hc
    iexact Ht
  iexists q, (m (colLoc d)); isplitr
  · ipureintro; exact fun x => congrArg (m (colLoc d)) (show _ = (ix2 ⟨r, h⟩ (x 0) : S20x1024.Idx) from rowMem_emb 20 colW r h x)
  iexact H

theorem reads_typ (r : ℕ) (h : r < 2) : Reads m d c (rowMem typW r h) fun j => m (typLoc d) (ix2 ⟨r, h⟩ j) := by
  unfold Reads
  iintro ⟨Hr, Hc, Ht⟩
  ihave H := (rowMem_share d c 2 typW r h (m (typLoc d))) $$ Ht
  icases H with ⟨Ht, %q, H⟩
  isplitr [H]
  · isplitl [Hr]; · iexact Hr
    isplitl [Hc]; · iexact Hc
    iexact Ht
  iexists q, (m (typLoc d)); isplitr
  · ipureintro; exact fun x => congrArg (m (typLoc d)) (show _ = (ix2 ⟨r, h⟩ (x 0) : S2x1024.Idx) from rowMem_emb 2 typW r h x)
  iexact H

/-- Copy `n`'s source can be taken off the tables and reads as the values the copy moves. -/
theorem src_reads (n : ℕ) : Reads m d c (src n) (val m d n) := by
  by_cases h0 : n % 3 = 0
  · rw [show src n = rowMem rowW (rowOf (tile n)) (rowOf_tile n) from if_pos h0, show val m d n = _ from funext fun j => if_pos h0]
    exact reads_row m d c _ _
  by_cases h1 : n % 3 = 1
  · rw [show src n = rowMem colW (colOf (tile n)) (colOf_tile n) from (if_neg h0).trans (if_pos h1),
      show val m d n = _ from funext fun j => (if_neg h0).trans (if_pos h1)]
    exact reads_col m d c _ _
  · rw [show src n = rowMem typW (typOf (tile n)) (typOf_tile n) from (if_neg h0).trans (if_neg h1),
      show val m d n = _ from funext fun j => (if_neg h0).trans (if_neg h1)]
    exact reads_typ m d c _ _

/-! ## The rows of the result -/

/-- The elements of row `n` of the result. -/
abbrev rowSet (n : ℕ) : Finset S84x1024.Idx := (dst n).view.set

theorem mem_rowSet (n : ℕ) (hn : n < 84) (i : S84x1024.Idx) : i ∈ rowSet n ↔ (i 0).val = n := by
  have key : ∀ x : S1024.Idx, (dst n).view.emb x = (ix2 ⟨n % 84, Nat.mod_lt _ (by decide)⟩ (x 0) : S84x1024.Idx) :=
    fun x => rowMem_emb 84 outW _ _ x
  constructor
  · intro hi
    obtain ⟨x, -, hx⟩ := Finset.mem_map.mp hi
    exact (congrArg (fun j : S84x1024.Idx => (j 0).val) (hx.symm.trans (key x))).trans (Nat.mod_eq_of_lt hn)
  · intro hi
    refine Finset.mem_map.mpr ⟨ix1 (i 1), Finset.mem_univ _, ?_⟩
    exact (key _).trans ((congrArg (fun a => (ix2 a (i 1) : S84x1024.Idx)) (Fin.ext ((Nat.mod_eq_of_lt hn).trans hi.symm))).trans
      (eq_ix2 i).symm)

theorem rowSet_disjoint : ∀ s ∈ (Finset.univ : Finset (Fin 84)), ∀ t ∈ (Finset.univ : Finset (Fin 84)), s ≠ t →
    Disjoint (rowSet s.val) (rowSet t.val) := by
  intro s _ t _ hne
  refine Finset.disjoint_left.mpr fun i hs ht => hne (Fin.ext ?_)
  exact ((mem_rowSet _ s.isLt i).mp hs).symm.trans ((mem_rowSet _ t.isLt i).mp ht)

theorem rowSet_cover : (Finset.univ : Finset (Fin 84)).biUnion (fun t => rowSet t.val) = Finset.univ := by
  refine Finset.eq_univ_iff_forall.mpr fun i => Finset.mem_biUnion.mpr ⟨⟨(i 0).val, (i 0).isLt⟩, Finset.mem_univ _, ?_⟩
  exact (mem_rowSet _ (i 0).isLt i).mpr rfl

/-- The result array is its 84 rows. -/
theorem out_rows (f : Buf (Elt F) (outLoc d)) :
    (outLoc d ↦{fullShare} f : sProp 𝕄) = bigSep Finset.univ fun t : Fin 84 => outLoc d ↦[rowSet t.val]{fullShare} f := by
  rw [← pointsTo_biUnion (ℓ := outLoc d) Finset.univ (fun t : Fin 84 => rowSet t.val) rowSet_disjoint]
  exact congrArg (fun s => (outLoc d ↦[s]{fullShare} f : sProp 𝕄)) rowSet_cover.symm

/-- What copy `t` delivers: its row of the result, filled. -/
abbrev delivered (t : Fin 84) : sProp 𝕄 := outLoc d ↦[rowSet t.val]{fullShare} gathered m d

/-- Writing over row `n` the values copy `n` moves leaves there what the filled array holds. -/
theorem row_lands (n : ℕ) (hn : n < 84) (fd : Buf (Elt F) (outLoc d)) (w : S1024.Idx → Elt F .f32)
    (hw : ∀ x, w x = val m d n (x 0)) :
    ∀ i ∈ rowSet n, (dst n).view.write (Elt F) fd w Finset.univ i = gathered m d i := by
  intro i hi
  obtain ⟨x, -, rfl⟩ := Finset.mem_map.mp hi
  refine (View.write_emb_of_mem (v := (dst n).view) fd w (Finset.mem_univ x)).trans ?_
  have e : (dst n).view.emb x = (ix2 ⟨n % 84, Nat.mod_lt _ (by decide)⟩ (x 0) : S84x1024.Idx) := rowMem_emb 84 outW _ _ x
  show w x = gathered m d ((dst n).view.emb x)
  rw [e, hw]
  show val m d n (x 0) = val m d (n % 84) (x 0)
  rw [Nat.mod_eq_of_lt hn]

/-! ## The two loops -/

variable [FloatOps F]

/-- The units one copy's landing brings. -/
abbrev unit : ℕ := (dst 0).view.dmaCredit
theorem unit_pos : 0 < unit := View.dmaCredit_pos _ (by decide)

abbrev cell : SemLoc sig := .dma cc0_scratch0.sem

local notation "copies" => Batch (Lvl := ℕ) (Ix := HIx 1) (Val := Elt F) (Name := ℕ) (U := UU) EC (S d c) cell none unit (delivered m d)

/-- The starts: copy after copy, each taking its source off the tables and its row of the result. -/
theorem starts_run (p : Prog (TpuEff nD τ sig (Elt F) Λ₀ (.scScalar c)) PUnit) (Q : PUnit → sProp 𝕄) (f : Buf (Elt F) (outLoc d)) :
    ∀ k : ℕ, k ≤ 84 →
    iprop(tables m d ∗ bigSep (pending (n := 84) (84 - k)) (fun t => outLoc d ↦[rowSet t.val]{fullShare} f)
        ∗ copies (84 - k) 0 ∗ (copies 84 0 -∗ wp frame (wpE (defs₀ (F := F)) 𝒱₀ (S d c) none) Set.univ p Q))
      ⊢ wp frame (wpE (defs₀ (F := F)) 𝒱₀ (S d c) none) Set.univ (starts p k) Q := by
  intro k
  induction k with
  | zero =>
    intro _
    iintro ⟨-, -, HB, Hk⟩
    iapply Hk; iexact HB
  | succ k ih =>
    intro hk
    have hlt : 83 - k < 84 := by omega
    rw [show 84 - (k + 1) = 83 - k by omega]
    iintro ⟨Htab, Hrows, HB, Hk⟩
    ihave Hrows' := (Entails.of_eq (Transfers.bigSep_pending_step (fun t : Fin 84 => (outLoc d ↦[rowSet t.val]{fullShare} f : sProp 𝕄)) (83 - k) hlt)) $$ Hrows
    icases Hrows' with ⟨Hrow, Hrows⟩
    have hr := src_reads m d c (83 - k)
    unfold Reads at hr
    ihave Hs := hr $$ Htab
    icases Hs with ⟨Htab, %q, %fs, %hfs, Hsrc⟩
    iapply (Transfers.wp_dmaBatch EC 𝒱₀ (S d c) none (src := src (83 - k)) (dst := dst (83 - k)) (sm := cell) (fs := fs) (fd := f)
      (D := delivered m d) (j := 83 - k) (u := 0) (q := q) none unit rfl (Finset.Subset.refl _) hlt (Nat.zero_le _) ?hD) $$ [Hsrc Hrow HB]
    case hD =>
      iintro ⟨Hd, -⟩
      iapply (Entails.of_eq (pointsTo_congr (row_lands m d (83 - k) hlt f _ hfs)))
      iexact Hd
    · isplitl [Hsrc]; · iexact Hsrc
      isplitl [Hrow]; · iexact Hrow
      iexact HB
    iintro HB
    iapply (ih (by omega))
    rw [show 84 - k = 83 - k + 1 by omega]
    isplitl [Htab]; · iexact Htab
    isplitl [Hrows]; · iexact Hrows
    isplitl [HB]; · iexact HB
    iexact Hk

/-- The waits: the last one hands back every row filled and the semaphore at zero. -/
theorem waits_run (Q : PUnit → sProp 𝕄) (O : CellTallies nD τ sig (HIx 1)) (hO : ∀ g, O g none = 0) :
    ∀ k : ℕ, k + 1 ≤ 84 → ∀ W : Waits sig (HIx 1),
    iprop(levAts (K (F := F)).L (K (F := F)).lev ∗ copies 84 ((83 - k) * unit) ∗ owes (S d c) O W
        ∗ ((bigSep Finset.univ (delivered m d) ∗ semVal (S d c, cell) 0
            ∗ ∃ W', ⌜∀ p ∈ W', p ∈ W ∨ p.2 = none⌝ ∗ owes (S d c) O W') -∗ Q ⟨⟩))
      ⊢ wp frame (wpE (defs₀ (F := F)) 𝒱₀ (S d c) none) Set.univ (waits (k + 1)) Q := by
  intro k
  induction k with
  | zero =>
    intro _ W
    iintro ⟨#Hlv, HB, HO, Hk⟩
    iapply (Transfers.wp_waitBatchLastO EC 𝒱₀ (S d c) none (srcw := src 83) (dstw := dst 83) (sem := cc0_scratch0.sem) none
      (N := unit) rfl unit_pos (D := delivered m d) (u := (83 - 0) * unit) (by omega)) $$ [HB HO]
    · isplitl [HB]; · iexact HB
      isplitl [HO]; · iexact HO
      iapply ((K (F := F)).mayWait_none cell hO); iexact Hlv
    iintro ⟨HD, Hsem, HO⟩
    unfold waits
    rw [wp_ret]; imodintro
    iapply Hk
    isplitl [HD]; · iexact HD
    isplitl [Hsem]; · iexact Hsem
    iexists (insert (cell, none) W); isplitr
    · ipureintro; intro p hp
      rcases Finset.mem_insert.mp hp with rfl | hp
      · exact .inr rfl
      · exact .inl hp
    iexact HO
  | succ k ih =>
    intro hk W
    iintro ⟨#Hlv, HB, HO, Hk⟩
    have e : (83 - (k + 1)) * unit + unit = (83 - k) * unit := by
      rw [show 83 - k = 83 - (k + 1) + 1 by omega, Nat.succ_mul]
    have hu : (83 - (k + 1)) * unit + unit < unit * 84 := by
      rw [e, Nat.mul_comm unit 84]
      exact Nat.mul_lt_mul_of_pos_right (by omega) unit_pos
    iapply (Transfers.wp_waitBatchO EC 𝒱₀ (S d c) none (srcw := src (83 - (k + 1))) (dstw := dst (83 - (k + 1))) (sem := cc0_scratch0.sem) none
      (N := unit) rfl (D := delivered m d) (u := (83 - (k + 1)) * unit) hu) $$ [HB HO]
    · isplitl [HB]; · iexact HB
      isplitl [HO]; · iexact HO
      iapply ((K (F := F)).mayWait_none cell hO); iexact Hlv
    iintro ⟨HB, HO⟩
    rw [e]
    iapply (ih (by omega) (insert (cell, none) W))
    isplitr; · iexact Hlv
    isplitl [HB]; · iexact HB
    isplitl [HO]; · iexact HO
    iintro ⟨HD, Hsem, %W', %hW', HO⟩
    iapply Hk
    isplitl [HD]; · iexact HD
    isplitl [Hsem]; · iexact Hsem
    iexists W'; isplitr
    · ipureintro; intro p hp
      rcases hW' p hp with hp | hp
      · rcases Finset.mem_insert.mp hp with rfl | hp
        · exact .inr rfl
        · exact .inl hp
      · exact .inr hp
    iexact HO

end Cert.Proof.Copies

end
-- ==== Proof.ScCall.lean ====
/- The SparseCore call's obligation to the launch theorem: the sequencer's program, from what the call carries to what it
   brings back. -/
module

public import proofs.«01_k».proof.Proof.ScBody

@[expose] public section

noncomputable section

namespace Cert.Proof.Copies

open Cert.KernelIdeal Cert.KernelIdeal.Gen
open Idealize.ShloMosaic
open Idealize.ShloMosaic.SparseCore (S V T)
open Idealize.ShloMosaic.SparseCore.Cfg (HIx Pay ownSems0 ownCells mem_ownCells)
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD)

/-- The copies' semaphore among a sequencer's own. -/
theorem ownSems0_eq (c : Fin τ.nSC) :
    (ownSems0 (S d c) : sProp 𝕄) = iprop(semVal (S d c, cell) 0 ∗ bigSep ((ownCells (S d c)).erase (S d c, cell)) fun g => semVal g 0) := by
  unfold SparseCore.Cfg.ownSems0
  exact SparseCore.bigSep_erase' ((mem_ownCells (g := (S d c, cell))).mpr ⟨rfl, by show (cell : SemLoc sig).isScoped .scScalar = true; decide⟩)

variable [FloatOps F]

/-- The sequencer's run: the copies and their waits between the array split into its rows and the array joined again. -/
theorem body_run (c : Fin τ.nSC) (O : CellTallies nD τ sig (HIx 1)) (W : Waits sig (HIx 1)) (hO : ∀ g, O g none = 0) :
    iprop(levAts (K (F := F)).L (K (F := F)).lev ∗ emp ∗ (tables m d ∗ ∃ f, outLoc d ↦{fullShare} f)
        ∗ scopedBufs (S d c) ∗ scopedSems0 (S d c) ∗ owes (S d c) O W)
      ⊢ wp frame (wpE (defs₀ (F := F)) 𝒱₀ (S d c) none) Set.univ (starts (waits 84) 84)
          fun _ => iprop((outLoc d ↦{fullShare} gathered m d) ∗ scopedBufs (S d c) ∗ scopedSems0 (S d c)
            ∗ ∃ W', ⌜∀ p ∈ W', p ∈ W ∨ p.2 = none⌝ ∗ owes (S d c) O W') := by
  iintro ⟨#Hlv, -, ⟨Htab, %f, Hout⟩, Hsb, Hss, HO⟩
  ihave Hss' := (SparseCore.Cfg.scopedSems0_S_elim (Val := Elt F) d c) $$ Hss
  icases Hss' with ⟨Hown, Hsubs⟩
  ihave Hown' := (Entails.of_eq (ownSems0_eq (F := F) d c)) $$ Hown
  icases Hown' with ⟨Hsem, Hrest⟩
  imod (Transfers.batch_alloc' (Lvl := ℕ) EC (S d c) none unit (delivered m d) (sm := cell) (E := Set.univ)) $$ Hsem with HB
  ihave Hrows := (Entails.of_eq (out_rows (F := F) d f)) $$ Hout
  iapply (starts_run m d c (waits 84) _ f 84 (le_refl _))
  isplitl [Htab]; · iexact Htab
  isplitl [Hrows]; · rw [← Transfers.bigSep_pending_zero]; iexact Hrows
  isplitl [HB]; · iexact HB
  iintro HB
  iapply (waits_run m d c _ O hO 83 (le_refl _) W)
  isplitr; · iexact Hlv
  isplitl [HB]; · rw [show (83 - 83) * unit = 0 from Nat.zero_mul _]; iexact HB
  isplitl [HO]; · iexact HO
  iintro ⟨HD, Hsem, HO⟩
  isplitl [HD]; · rw [out_rows]; iexact HD
  isplitl [Hsb]; · iexact Hsb
  isplitl [Hsem Hrest Hsubs]
  · iapply (SparseCore.Cfg.scopedSems0_S_intro (Val := Elt F) d c)
    isplitl [Hsem Hrest]
    · rw [ownSems0_eq]; isplitl [Hsem] <;> iassumption
    · iexact Hsubs
  iexact HO

set_option maxRecDepth 20000 in
/-- The same of the printed program. -/
theorem printed_run (i : grid0.Coords) (O : CellTallies nD τ sig (HIx 1)) (W : Waits sig (HIx 1)) (hO : ∀ g, O g none = 0) :
    iprop(levAts (K (F := F)).L (K (F := F)).lev ∗ emp ∗ (tables m d ∗ ∃ f, outLoc d ↦{fullShare} f)
        ∗ scopedBufs (S d ((i 0).castLE hcore0)) ∗ scopedSems0 (S d ((i 0).castLE hcore0)) ∗ owes (S d ((i 0).castLE hcore0)) O W)
      ⊢ wp frame (wpE (defs₀ (F := F)) 𝒱₀ (S d ((i 0).castLE hcore0)) none) Set.univ
          (cc0_sc_fn i rowW (Memref.isWhole_whole _) colW (Memref.isWhole_whole _) typW (Memref.isWhole_whole _)
            outW (Memref.isWhole_whole _) cc0_scratch0)
          fun _ => iprop((outLoc d ↦{fullShare} gathered m d) ∗ scopedBufs (S d ((i 0).castLE hcore0)) ∗ scopedSems0 (S d ((i 0).castLE hcore0))
            ∗ ∃ W', ⌜∀ p ∈ W', p ∈ W ∨ p.2 = none⌝ ∗ owes (S d ((i 0).castLE hcore0)) O W') := by
  have h := body_run m d ((i 0).castLE hcore0) O W hO
  have e := body_eq (F := F) i
  rw [← e] at h
  exact h

/-- A core number as the kernel's grid coordinates. -/
def coordsS (c : Fin (grid0.bound 0)) : grid0.Coords := fun | 0 => c | ⟨_ + 1, h⟩ => absurd h (Nat.not_lt.2 (Nat.le_add_left _ _))

/-- The body table's entry for a sequencer is the printed program over the four arrays. -/
theorem defs₀_scalar (c : Fin τ.nSC) :
    defs₀ (F := F) (.scScalar c) 0 ()
      = SparseCore.onCore hcore0 (fun c => cc0_sc_fn (coordsS c) rowW (Memref.isWhole_whole _) colW (Memref.isWhole_whole _)
          typW (Memref.isWhole_whole _) outW (Memref.isWhole_whole _) cc0_scratch0) ⟨⟩ c := rfl

omit [FloatOps F] in
/-- A wait recorded at no call's index is one recorded there or at call `q`'s. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 20000 in
/-- The call's obligation. -/
theorem scalarObl : (K (F := F)).ScalarObl (D (F := F)) 𝒱 (P m) v₀ 0 := by
  intro d c O W hO _ _
  simp only [show (P (F := F) m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]
  simp only [SparseCore.onCore, hc, ↓reduceDIte]
  rw [body_eq]
  exact (printed_run m d (coordsS ⟨_, hc⟩) O W hO).trans (wp_mono frame _ _ fun _ => waits_weaken)

end Cert.Proof.Copies

end
-- ==== Proof.Run.lean ====
/- The whole program's run: the launch's ghost state, the main function's SparseCore call and TensorCore region, and
   what every final state holds. -/
module

public import proofs.«01_k».proof.Proof.Region
public import proofs.«01_k».proof.Proof.ScCall

@[expose] public section

noncomputable section

namespace Cert.Proof.Whole

open Cert.KernelIdeal Cert.KernelIdeal.Gen Cert.Proof.Copies Cert.Proof.Tiles
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The launch's element: the handshakes', the pipeline's staging cells', and no counter. -/
def u₀ : UU := (initOf (K (F := F)).hsCells (K (F := F)).hsToks, (initOf (Pipeline.cells cfgs cellOf_inj) (Pipeline.launchToks cfgs cellOf_inj), 1))

/-- The pipeline's ghost state on a device. -/
def ghost (d : Dev nD) : sProp 𝕄 :=
  iprop(Pipeline.cellsGhost cfgs EP 0 d ∗ Pipeline.toksInit cfgs EP 0 d)

/-- The element splits into its parts. -/
theorem u₀_split : (ownU (u₀ (F := F)) : sProp 𝕄)
    ⊢ iprop(BI.own (EH (initOf (K (F := F)).hsCells (K (F := F)).hsToks))
        ∗ BI.own (EP (F := F) (initOf (Pipeline.cells cfgs cellOf_inj) (Pipeline.launchToks cfgs cellOf_inj)))) := by
  unfold u₀ ownU
  refine (own_pair_emb (uEmb (nD := nD) (sig := sig) (Ix := HIx 1) (Val := Elt F) (Name := ℕ) (U := UU) (Lvl := ℕ)).toEmb _ _).trans ?_
  refine sep_mono .rfl ((own_pair_emb _ _ _).trans ?_)
  exact sep_elim_left

/-- The launch deals the handshakes' state, the pipeline's to each device, and nothing to the kernels. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  refine u₀_split.trans ?_
  iintro ⟨HH, HP⟩
  imod (Pipeline.fund_ghost cfgs EP cellOf_inj) $$ HP with ⟨Hc, Ht⟩
  imodintro
  isplitl [HH]; · iexact HH
  isplitl [Hc Ht]
  · unfold ghost
    iapply (Entails.of_eq (bigSep_sep' _ _ _).symm)
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  · iapply (show (BI.emp : sProp 𝕄) ⊢ _ from Entails.of_eq (by
      show _ = bigSep Finset.univ fun thr : Thread nD τ => bigSep Finset.univ fun q : Fin 1 => (BI.emp : sProp 𝕄)
      simp only [bigSep_emp_const]))
    iempintro

/-- The region as the main function calls it, under the body table with the SparseCore's calls. -/
theorem region_call (d : Dev nD) (Q : PUnit → sProp 𝕄) :
    iprop((iprop(boundary (d.tc : Thread nD τ) ∗ (region m).post d) -∗ Q ⟨⟩)
        ∗ boundary (d.tc : Thread nD τ) ∗ (region m).pre d ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Q := by
  have h := Pipeline.RegionSeg.wp pcfgs adm (dats m) (none : HIx 1) cellOf_inj EP defs₀ Variants.none (K (F := F)).L (K (F := F)).lev (region m) d none
    (fun _ hu => nomatch hu) (fun x => .ret x) Q
  refine BIBase.Entails.trans ?_ (h.trans ((K (F := F)).wp_liftProg (D (F := F)) 𝒱 (SparseCore.T d) Set.univ none _ Q))
  unfold ghost
  iintro ⟨Hk, Hb, Hp, Hl, Hc, Ht⟩
  isplitl [Hk]
  · iintro H
    rw [wp_ret]
    imodintro
    iapply Hk; iexact H
  isplitl [Hb]; · iexact Hb
  isplitl [Hp]; · iexact Hp
  isplitl [Hl]; · iexact Hl
  isplitl [Hc]; · iexact Hc
  iexact Ht

/-- The result array's location. -/
abbrev resLoc (d : Dev nD) : Loc nD τ sig := (SparseCore.T d).loc main_v1

/-- The result array at the end: what the region's write-backs make of it. -/
def final (d : Dev nD) : Buf (Elt F) (resLoc d) := (dats m 0 d).arrAt 4 cfg1.N

/-- The region's arrays, one by one, at contents `G`. -/
theorem arrays_open (d : Dev nD) (G : (w : Fin cfg1.W) → Buf (Elt F) ((cfg1.win w).arr.view.loc (d.tc : Thread nD τ))) :
    ((dats m 0 d).arrays G : sProp 𝕄)
      = iprop(((SparseCore.T d).loc main_arg0 ↦{fullShare} G 0) ∗ ((SparseCore.T d).loc main_arg1 ↦{fullShare} G 1) ∗ (outLoc d ↦{fullShare} G 2)
          ∗ ((SparseCore.T d).loc main_arg4 ↦{fullShare} G 3) ∗ (resLoc d ↦{fullShare} G 4)) := by
  rw [Pipeline.arrays_eq cfgs (dats m) 0 d launch1.arr_whole ((dats m 0 d).share_full fun _ => rfl) G]
  exact bigSep_W1 _

/-- The TensorCore's arrays, one by one. -/
theorem unscoped_open (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ (rowLoc d ↦{fullShare} W main_arg2)
          ∗ (colLoc d ↦{fullShare} W main_arg3) ∗ ((SparseCore.T d).loc main_arg4 ↦{fullShare} W main_arg4) ∗ (typLoc d ↦{fullShare} W main_arg5)
          ∗ (outLoc d ↦{fullShare} W main_v0) ∗ (resLoc d ↦{fullShare} W main_v1)) := by
  unfold unscopedBufs
  rw [show (Finset.univ.filter fun b : Ref sig .tc => ¬ b.isScoped) = {main_arg0, main_arg1, main_arg2, main_arg3, main_arg4, main_arg5, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the call takes and brings back, its one SparseCore's. -/
theorem st_eq (d : Dev nD) : (bigSep Finset.univ fun c : Fin ((K (F := F)).nCore 0) => (P m).st 0 d c)
    = iprop(tables m d ∗ ∃ f, outLoc d ↦{fullShare} f) := bigSep_univ_of_subsingleton (0 : Fin 1)
theorem dn_eq (d : Dev nD) : (bigSep Finset.univ fun c : Fin ((K (F := F)).nCore 0) => (P m).dn 0 d c)
    = iprop(outLoc d ↦{fullShare} gathered m d) := bigSep_univ_of_subsingleton (0 : Fin 1)

/-- What the main function leaves: the arguments at their launch contents (shares of the three tables), the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg4 ↦{fullShare} m ((SparseCore.T d).loc main_arg4)) ∗ (resLoc d ↦{fullShare} final m d) ∗ tables m d)

/-- A whole array at contents `f` gives two read shares of it. -/
theorem two_shares (ℓ : Loc nD τ sig) (f : Buf (Elt F) ℓ) : ((ℓ ↦{fullShare} f) : sProp 𝕄) ⊢ iprop(someShare ℓ f ∗ someShare ℓ f) := by
  unfold someShare
  iintro H
  ihave H := (pointsTo_share (PosShare.mem_left_op_right fullShare)).1 $$ H
  icases H with ⟨H1, H2⟩
  isplitl [H1]
  · iexists _; iexact H1
  · iexists _; iexact H2

/-- The TensorCore's state after the one call is the settled core, and the rest of it. -/
theorem settle (d : Dev nD) : ((K (F := F)).tcSt EH d 1 : sProp 𝕄) ⊢ iprop(settled (F := F) d ∗ (settled (F := F) d -∗ (K (F := F)).tcSt EH d 1)) := by
  unfold SparseCore.Cfg.tcSt
  rw [(K (F := F)).Otc_end d (le_refl 1)]
  unfold settled
  iintro ⟨HO, Hr⟩
  isplitl [HO]; · iexact HO
  iintro HO
  isplitl [HO]; · iexact HO
  iexact Hr

/-- The main function on a device: the SparseCore call, from shares of the tables and the array it fills; then the
    region, from its windows' arrays. -/
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_open]
  simp only [main, wp_bind, wp_pure]
  iintro ⟨#Hctx, Hst, ⟨Hb, ⟨H0, H1, H2, H3, H4, H5, H6, H7⟩, Hts, -⟩, Hg⟩
  ihave Hr := (two_shares _ _) $$ H2
  ihave Hc := (two_shares _ _) $$ H3
  ihave Ht := (two_shares _ _) $$ H5
  icases Hr with ⟨Hr, Hr'⟩
  icases Hc with ⟨Hc, Hc'⟩
  icases Ht with ⟨Ht, Ht'⟩
  iapply ((K (F := F)).wp_run (D (F := F)) 𝒱 (EH := EH) (P := P m) κ d 0) $$ [Hst Hb H0 H1 H4 H6 H7 Hr Hr' Hc Hc' Ht Ht' Hts Hg]
  isplitr; · iexact Hctx
  isplitl [Hst]; · iexact Hst
  isplitl [H6 Hr Hc Ht]
  · rw [st_eq]
    isplitl [Hr Hc Ht]
    · isplitl [Hr]; · iexact Hr
      isplitl [Hc]; · iexact Hc
      iexact Ht
    iexists _; iexact H6
  iintro ⟨Hst, Hdn⟩
  ihave H6 := (Entails.of_eq (dn_eq m d)) $$ Hdn
  ihave Hst := (show ((K (F := F)).tcSt EH d ((0 : Fin 1).val + 1) : sProp 𝕄) ⊢ _ from settle (F := F) d) $$ Hst
  icases Hst with ⟨Hs, Hback⟩
  iapply (region_call m d)
  isplitl [Hback Hr' Hc' Ht' Hts]
  · iintro ⟨Hb, Hp⟩
    ihave Hp := (show (region m).post d ⊢ iprop((dats m 0 d).arrays ((dats m 0 d).arrAt · cfg1.N) ∗ settled (F := F) d) from .rfl) $$ Hp
    icases Hp with ⟨Ha, Hs⟩
    ihave Ha := (Entails.of_eq (arrays_open m d _)) $$ Ha
    icases Ha with ⟨H0, H1, -, H4, H7⟩
    imodintro
    isplitl [Hback Hs]; · iapply Hback; iexact Hs
    isplitr [Hb Hts]
    · unfold FIN
      isplitl [H0]
      · rw [(dats m 0 d).arrAt_in 0 rfl]; iexact H0
      isplitl [H1]
      · rw [(dats m 0 d).arrAt_in 1 rfl]; iexact H1
      isplitl [H4]
      · rw [(dats m 0 d).arrAt_in 3 rfl]; iexact H4
      isplitl [H7]; · iexact H7
      isplitl [Hr']; · iexact Hr'
      isplitl [Hc']; · iexact Hc'
      iexact Ht'
    isplitl [Hb] <;> iassumption
  isplitl [Hb]; · iexact Hb
  isplitl [H0 H1 H4 H6 H7 Hs]
  · iapply (show iprop((dats m 0 d).arrays ((dats m 0 d).arrAt · 0) ∗ settled (F := F) d) ⊢ (region m).pre d from .rfl)
    isplitr [Hs]
    · rw [arrays_open]
      isplitl [H0]; · iexact H0
      isplitl [H1]; · iexact H1
      isplitl [H6]; · iexact H6
      isplitl [H4]; · iexact H4
      iexact H7
    iexact Hs
  isplitr; · iapply (SparseCore.Cfg.ctx_levAts κ) $$ Hctx
  iexact Hg

/-- What the claims read of a device's final state: the arguments as launched, the result. -/
def fq (d : Dev nD) (s : MemSt nD τ sig (Elt F)) : Prop :=
  s.mem ((SparseCore.T d).loc main_arg0) = m ((SparseCore.T d).loc main_arg0)
    ∧ s.mem ((SparseCore.T d).loc main_arg1) = m ((SparseCore.T d).loc main_arg1)
    ∧ s.mem (rowLoc d) = m (rowLoc d) ∧ s.mem (colLoc d) = m (colLoc d)
    ∧ s.mem ((SparseCore.T d).loc main_arg4) = m ((SparseCore.T d).loc main_arg4)
    ∧ s.mem (typLoc d) = m (typLoc d) ∧ s.mem (resLoc d) = final m d

/-- A whole array held beside the machine's state is what the state has there. -/
theorem read_whole (s' : Phys nD τ sig (Elt F)) (ℓ : Loc nD τ sig) (q : PosShare TreeShare) (f : Buf (Elt F) ℓ) :
    iprop((ℓ ↦{q} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun i => h i (Finset.mem_univ i)
  iexact HSI

theorem read_share (s' : Phys nD τ sig (Elt F)) (ℓ : Loc nD τ sig) (f : Buf (Elt F) ℓ) :
    iprop(someShare ℓ f ∗ SI s') ⊢ (iprop(⌜s'.mem.mem ℓ = f⌝ ∗ SI s') : sProp 𝕄) := by
  unfold someShare
  iintro ⟨⟨%q, H⟩, HSI⟩
  iapply (read_whole s' ℓ q f)
  isplitl [H] <;> iassumption

/-- What the main function leaves determines what the claims read. -/
theorem hfin (d : Dev nD) (s' : Phys nD τ sig (Elt F)) : iprop(FIN m d ∗ SI s') ⊢ (⌜fq m d s'.mem⌝ : sProp 𝕄) := by
  unfold FIN
  iintro ⟨⟨H0, H1, H4, H7, Hr, Hc, Ht⟩, HSI⟩
  ihave H := (read_whole s' _ _ _) $$ [H0 HSI]
  · isplitl [H0] <;> iassumption
  icases H with ⟨%h0, HSI⟩
  ihave H := (read_whole s' _ _ _) $$ [H1 HSI]
  · isplitl [H1] <;> iassumption
  icases H with ⟨%h1, HSI⟩
  ihave H := (read_whole s' _ _ _) $$ [H4 HSI]
  · isplitl [H4] <;> iassumption
  icases H with ⟨%h4, HSI⟩
  ihave H := (read_whole s' _ _ _) $$ [H7 HSI]
  · isplitl [H7] <;> iassumption
  icases H with ⟨%h7, HSI⟩
  ihave H := (read_share s' _ _) $$ [Hr HSI]
  · isplitl [Hr] <;> iassumption
  icases H with ⟨%hr, HSI⟩
  ihave H := (read_share s' _ _) $$ [Hc HSI]
  · isplitl [Hc] <;> iassumption
  icases H with ⟨%hc, HSI⟩
  ihave H := (read_share s' _ _) $$ [Ht HSI]
  · isplitl [Ht] <;> iassumption
  icases H with ⟨%ht, -⟩
  ipureintro
  exact ⟨h0, h1, hr, hc, h4, ht, h7⟩

/-- What every final state has: on each device what the claims read, and every semaphore counter at zero. -/
def QC : PUnit × MemSt nD τ sig (Elt F) → Prop := fun r => (∀ c : Dev nD, fq m c r.2) ∧ r.2.sem = fun _ => 0

/-- From any memory with counters at zero, every weakly fair execution of the program terminates, and every final state
    has the arguments as launched, the result at `final` and every counter at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun d => ghost (F := F) d) (FIN m) (u₀ (F := F)) (sep_elim_left.trans (hu₀ m)) (hmain m ρ) (fun d s => fq m d s.mem) (hfin m) (QC m)
    (fun _ h hz => ⟨h, hz⟩)

end Cert.Proof.Whole

end
-- ==== Proof.OutValue.lean ====
/- What the result array holds after the run, index by index, from the arguments. -/
module

public import proofs.«01_k».proof.Proof.Run
public import Idealize.ShloMosaic.Lib.Pipeline.Value

@[expose] public section

noncomputable section

namespace Cert.Proof.Whole

open Cert.KernelIdeal Cert.KernelIdeal.Gen Cert.Proof.Copies Cert.Proof.Tiles
open Idealize.ShloMosaic Idealize.ShloMosaic.TcCoe Idealize.ShloMosaic.ValueIdx
open Idealize.SL.Sem

variable {F : FTy → Type} [FloatOps F]

theorem rowOf_lt {t : ℕ} (h : t < 28) : rowOf t < 20 := by unfold rowOf; split <;> omega
theorem colOf_lt {t : ℕ} (h : t < 28) : colOf t < 20 := by unfold colOf; split <;> omega
theorem typOf_lt (t : ℕ) : typOf t < 2 := by unfold typOf; split <;> omega

/-- The tile that a row of an image's result belongs to. -/
theorem tile_of_row (r : Fin 1792) : r.val / 64 < 28 := by omega

/-- The result at image `b`, row `r`, column `j`: the local entry and the image's entry, then the row's, the column's
    and the type's entries of the row's tile. -/
def entryAt (it : Vec F S16 .i32) (loc : Vec F S1x64x1024 .f32) (row col : Vec F S20x1024 .f32) (img typ : Vec F S2x1024 .f32)
    (b : Fin 16) (r : Fin 1792) (j : Fin 1024) : Elt F .f32 :=
  FloatOps.addf
    (FloatOps.addf (loc (ix3 (0 : Fin 1) ⟨r.val % 64, Nat.mod_lt _ (by decide)⟩ j))
      (if it (ix1 b) = 0 then img (ix2 (0 : Fin 2) j) else img (ix2 (1 : Fin 2) j)))
    (FloatOps.addf
      (FloatOps.addf (row (ix2 ⟨rowOf (r.val / 64), rowOf_lt (tile_of_row r)⟩ j)) (col (ix2 ⟨colOf (r.val / 64), colOf_lt (tile_of_row r)⟩ j)))
      (typ (ix2 ⟨typOf (r.val / 64), typOf_lt _⟩ j)))

variable (m : (ℓ : Loc nD τ sig) → Buf (Elt F) ℓ)

/-- The three copies of a tile, read back out of the filled array. -/
theorem gathered_row (d : Dev nD) (t : ℕ) (h : t < 28) (j : Fin 1024) :
    gathered m d (ix2 ⟨3 * t, by omega⟩ j) = m (rowLoc d) (ix2 ⟨rowOf t, rowOf_lt h⟩ j) := by
  have e : tile (3 * t) = t := by unfold tile; omega
  show val m d (3 * t) j = _
  unfold val
  rw [if_pos (by omega)]
  simp only [e]
theorem gathered_col (d : Dev nD) (t : ℕ) (h : t < 28) (j : Fin 1024) :
    gathered m d (ix2 ⟨3 * t + 1, by omega⟩ j) = m (colLoc d) (ix2 ⟨colOf t, colOf_lt h⟩ j) := by
  have e : tile (3 * t + 1) = t := by unfold tile; omega
  show val m d (3 * t + 1) j = _
  unfold val
  rw [if_neg (by omega), if_pos (by omega)]
  simp only [e]
theorem gathered_typ (d : Dev nD) (t : ℕ) (h : t < 28) (j : Fin 1024) :
    gathered m d (ix2 ⟨3 * t + 2, by omega⟩ j) = m (typLoc d) (ix2 ⟨typOf t, typOf_lt t⟩ j) := by
  have e : tile (3 * t + 2) = t := by unfold tile; omega
  show val m d (3 * t + 2) j = _
  unfold val
  rw [if_neg (by omega), if_neg (by omega)]
  simp only [e]

/-- The inputs' blocks are their whole arrays, at every point. -/
theorem staged_0 (c : Dev nD) (t : Fin cfg1.N) : staged m c 0 t = m ((c.tc : Thread nD τ).loc main_arg0) :=
  funext fun y => congrArg (m ((c.tc : Thread nD τ).loc main_arg0)) (funext fun a => Fin.ext
    ((cfg1.win 0).rect_emb_val_of_index_zero t a (match a with | ⟨0, _⟩ => rfl) y))
theorem staged_1 (c : Dev nD) (t : Fin cfg1.N) : staged m c 1 t = m ((c.tc : Thread nD τ).loc main_arg1) :=
  funext fun y => congrArg (m ((c.tc : Thread nD τ).loc main_arg1)) (funext fun a => Fin.ext
    ((cfg1.win 1).rect_emb_val_of_index_zero t a (match a with | ⟨0, _⟩ => rfl | ⟨1, _⟩ => rfl | ⟨2, _⟩ => rfl) y))
theorem staged_2 (c : Dev nD) (t : Fin cfg1.N) : staged m c 2 t = gathered m c :=
  funext fun y => congrArg (gathered m c) (funext fun a => Fin.ext
    ((cfg1.win 2).rect_emb_val_of_index_zero t a (match a with | ⟨0, _⟩ => rfl | ⟨1, _⟩ => rfl) y))
theorem staged_3 (c : Dev nD) (t : Fin cfg1.N) : staged m c 3 t = m ((c.tc : Thread nD τ).loc main_arg4) :=
  funext fun y => congrArg (m ((c.tc : Thread nD τ).loc main_arg4)) (funext fun a => Fin.ext
    ((cfg1.win 3).rect_emb_val_of_index_zero t a (match a with | ⟨0, _⟩ => rfl | ⟨1, _⟩ => rfl) y))

/-- The image's word at a grid point is the image's entry of the index vector. -/
theorem word_eq (i : grid1.Coords) (x0 : Vec F S16 .i32) (b : Fin 16) (h : (i 0).val = b.val) : word i x0 = x0 (ix1 b) := by
  refine congrArg x0 (funext fun a => Fin.ext ?_)
  match a with
  | ⟨0, _⟩ =>
    show (BitVec.ofNat 32 (i 0).val).toNat + 1 * _ = b.val
    have hz : ((Shape.Idx.first (numel1_S1.symm ▸ Nat.one_pos) : S1.Idx) 0).val = 0 := by
      have : ((Shape.Idx.first (numel1_S1.symm ▸ Nat.one_pos) : S1.Idx) 0).val < 1 := Fin.isLt _
      omega
    rw [BitVec.toNat_ofNat, h, Nat.mod_eq_of_lt (by omega)]
    show b.val + 1 * ((Shape.Idx.first (numel1_S1.symm ▸ Nat.one_pos) : S1.Idx) 0).val = b.val
    rw [hz]; omega

/-- The two rows of the image table and the local block, as the body loads them. -/
theorem load_img0 (x : Vec F S2x1024 .f32) (j : Fin 1024) :
    View.ld x (Rect.unit (s := S2x1024) ![0, 0] S1x1024.size inb_S2x1024_S1x1024_0_0) (ix2 (0 : Fin 1) j) = x (ix2 (0 : Fin 2) j) := by
  refine congrArg x (funext fun a => Fin.ext ?_)
  match a with
  | 0 => rfl
  | 1 => show 0 + 1 * j.val = j.val; omega
theorem load_img1 (x : Vec F S2x1024 .f32) (j : Fin 1024) :
    View.ld x (Rect.unit (s := S2x1024) ![1, 0] S1x1024.size inb_S2x1024_S1x1024_1_0) (ix2 (0 : Fin 1) j) = x (ix2 (1 : Fin 2) j) := by
  refine congrArg x (funext fun a => Fin.ext ?_)
  match a with
  | 0 => rfl
  | 1 => show 0 + 1 * j.val = j.val; omega
theorem load_loc (x : Vec F S1x64x1024 .f32) (l : Fin 64) (j : Fin 1024) :
    View.ld x (Rect.unit (s := S1x64x1024) ![0, 0, 0] S1x64x1024.size inb_S1x64x1024_S1x64x1024_0_0_0) (ix3 (0 : Fin 1) l j) = x (ix3 (0 : Fin 1) l j) := by
  refine congrArg x (funext fun a => Fin.ext ?_)
  match a with
  | 0 => rfl
  | 1 => show 0 + 1 * l.val = l.val; omega
  | 2 => show 0 + 1 * j.val = j.val; omega

/-- What the body leaves at the point of image `b`, row by row. -/
theorem produced_apply (c : Dev nD) (t : Fin cfg1.N) (b : Fin 16) (h : ((grid1.coords t) 0).val = b.val) (u : Fin 1) (r : Fin 1792) (j : Fin 1024) :
    produced m c t (ix3 u r j) = entryAt (m ((c.tc : Thread nD τ).loc main_arg0)) (m ((c.tc : Thread nD τ).loc main_arg1)) (m (rowLoc c)) (m (colLoc c))
      (m ((c.tc : Thread nD τ).loc main_arg4)) (m (typLoc c)) b r j := by
  unfold produced
  rw [staged_0, staged_1, staged_2, staged_3]
  unfold block
  show FloatOps.addf (k1_pay3 _ _ _ _ (ix2 ⟨r.val % 64, Nat.mod_lt _ (by decide)⟩ j))
    (FloatOps.addf (FloatOps.addf (gathered m c (ix2 ⟨3 * (r.val / 64), _⟩ j)) (gathered m c (ix2 ⟨3 * (r.val / 64) + 1, _⟩ j)))
      (gathered m c (ix2 ⟨3 * (r.val / 64) + 2, _⟩ j))) = _
  rw [gathered_row m c _ (tile_of_row r), gathered_col m c _ (tile_of_row r), gathered_typ m c _ (tile_of_row r), base_apply, word_eq _ _ b h, load_img0, load_img1, load_loc]
  rfl

/-- Two points write back blocks that share no entry. -/
theorem apart (t t' : Fin cfg1.N) (_ : (cfg1.win 4).flush t = true) (_ : (cfg1.win 4).flush t' = true) (hne : t ≠ t') :
    Disjoint ((cfg1.win 4).blk t).view.set ((cfg1.win 4).blk t').view.set :=
  (cfg1.win 4).disjoint_blk fun h => hne ((by decide +kernel : ∀ t t' : Fin grid1.N, win1_4.index t = win1_4.index t' → t = t') t t' h)

/-- The point at which an image is worked on. -/
theorem point_of (b : Fin 16) : ∃ t : Fin cfg1.N, ((grid1.coords t) 0).val = b.val ∧ (cfg1.win 4).index t 0 = b.val :=
  (by decide +kernel : ∀ b : Fin 16, ∃ t : Fin grid1.N, ((grid1.coords t) 0).val = b.val ∧ win1_4.index t 0 = b.val) b

/-- THE RESULT of the run: at every index the entry that the arguments give. -/
theorem final_apply (c : Dev nD) (b : Fin 16) (r : Fin 1792) (j : Fin 1024) :
    final m c (ix3 b r j) = entryAt (m ((c.tc : Thread nD τ).loc main_arg0)) (m ((c.tc : Thread nD τ).loc main_arg1)) (m (rowLoc c)) (m (colLoc c))
      (m ((c.tc : Thread nD τ).loc main_arg4)) (m (typLoc c)) b r j := by
  obtain ⟨t, hc, hx⟩ := point_of b
  have h := (dats m 0 c).arrAt_emb_eq_flushed 4 apart t (flush1_4 t) (ix3 (0 : Fin 1) r j : S1x1792x1024.Idx)
  have e : ((cfg1.win 4).blk t).view.emb (ix3 (0 : Fin 1) r j : S1x1792x1024.Idx) = (ix3 b r j : S16x1792x1024.Idx) := by
    funext a
    refine Fin.ext (((cfg1.win 4).rect_emb_val t (ix3 (0 : Fin 1) r j : S1x1792x1024.Idx) a).trans ?_)
    match a with
    | ⟨0, _⟩ => rw [show (cfg1.win 4).index t ⟨0, _⟩ = b.val from hx]; show b.val * 1 + 0 = b.val; omega
    | ⟨1, _⟩ => show 0 * 1792 + r.val = r.val; omega
    | ⟨2, _⟩ => show 0 * 1024 + j.val = j.val; omega
  unfold final
  rw [← e]
  refine h.trans ?_
  show (dats m 0 c).flushed 4 t (ix3 (0 : Fin 1) r j : S1x1792x1024.Idx) = _
  rw [← produced_apply m c t b hc (0 : Fin 1) r j, ← after_4]
  rfl

end Cert.Proof.Whole

end
-- ==== Proof.RefTake.lean ====
/- The reference's table lookups, index by index: a lookup whose words name rows of the table reads those rows. -/
module

public import proofs.«01_k».proof.Proof.Gen.ReferenceIdeal
public import Idealize.ShloMosaic.Lib.Pipeline.Value
public import Idealize.ShloMosaic.Lib.ValueIdxCore
public import Idealize.ShloMosaic.Lib.ReduceAll

@[expose] public section

noncomputable section

namespace Cert.Proof.Lookup

open Cert.ReferenceIdeal Cert.ReferenceIdeal.Gen
open Idealize.ShloMosaic Idealize.ShloMosaic.ValueIdx

variable {F : FTy → Type} [FloatOps F]

/-! ## A lookup by image and tile, of a table of two rows -/

/-- The row words of a lookup by image and tile, negative ones wrapped once, with a last axis of length one. -/
def rowsBT (ix : IVec S16x28 32) : IVec S16x28x1 32 :=
  broadcastInDim S16x28x1 ![0, 1] bcast_S16x28_S16x28x1_0_1
    (select (cmpi .slt ix (broadcastInDim S16x28 ![] bcast_S_S16x28 (constantI S_ 32 0#32)))
      (addi ix (broadcastInDim S16x28 ![] bcast_S_S16x28 (constantI S_ 32 2#32))) ix)

/-- Whether a lookup's row words are rows of the table, image by image and tile by tile. -/
def validBT (ix : IVec S16x28 32) : IVec S16x28 1 :=
  Host.reduce IntOp.andi
    (andi (cmpi .sge (rowsBT ix) (broadcastInDim S16x28x1 ![] bcast_S_S16x28x1 (constantI S_ 32 0#32)))
      (cmpi .sle (rowsBT ix) (broadcastInDim S16x28x1 ![0, 1, 2] bcast_S1x1x1_S16x28x1_0_1_2
        (broadcastInDim S1x1x1 ![2] bcast_S1_S1x1x1_2 (constantI S1 32 1#32)))))
    (constantI S_ 1 1#1) reducesTo_S16x28x1_S16x28_d2 h_S_

/-- The lookup: the table's rows, and not-a-number where a word is no row. -/
def takeBT (tab : FVec F S2x1024 .f32) (ix : IVec S16x28 32) : FVec F S16x28x1024 .f32 :=
  select (broadcastInDim S16x28x1024 ![0, 1] bcast_S16x28_S16x28x1024_0_1 (validBT ix))
    (Host.gather gather_S2x1024_S16x28x1_S16x28x1024_2_0_n_n_0_2_11024 tab (rowsBT ix))
    (broadcastInDim S16x28x1024 ![] bcast_S_S16x28x1024 (constant S_ .f32 0x7FC00000#32))

/-- A word that names one of two rows is not negative. -/
theorem select_two (w : Fin 2) (a : BitVec 32) :
    Scalar.select (IntOp.cmpi .slt (BitVec.ofNat 32 w.val) 0#32) a (BitVec.ofNat 32 w.val) = BitVec.ofNat 32 w.val := by
  fin_cases w <;> rfl

/-- The row words of a lookup whose words name rows are those words. -/
theorem rowsBT_apply (ix : IVec S16x28 32) (w : Fin 16 → Fin 28 → Fin 2) (h : ∀ b t, ix (ix2 b t) = BitVec.ofNat 32 (w b t).val)
    (b : Fin 16) (t : Fin 28) (u : Fin 1) : rowsBT ix (ix3 b t u) = BitVec.ofNat 32 (w b t).val := by
  unfold rowsBT
  rw [broadcastInDim_apply _ _ _ _ (ix2 b t : S16x28.Idx) (fun a => match a with | ⟨0, _⟩ => rfl | ⟨1, _⟩ => rfl), select_apply]
  show Scalar.select (IntOp.cmpi .slt (ix (ix2 b t)) 0#32) (IntOp.addi (ix (ix2 b t)) 2#32) (ix (ix2 b t)) = _
  rw [h]
  exact select_two _ _

/-- Such words are all rows of the table. -/
theorem validBT_apply (ix : IVec S16x28 32) (w : Fin 16 → Fin 28 → Fin 2) (h : ∀ b t, ix (ix2 b t) = BitVec.ofNat 32 (w b t).val)
    (y : S16x28.Idx) : validBT ix y = 1#1 := by
  refine Host.reduce_andi_one _ _ _ _ y rfl fun i => ?_
  obtain ⟨b, t, u, rfl⟩ : ∃ b t u, i = (ix3 b t u : S16x28x1.Idx) := ⟨_, _, _, eq_ix3 i⟩
  show IntOp.andi (IntOp.cmpi .sge (rowsBT ix (ix3 b t u)) 0#32) (IntOp.cmpi .sle (rowsBT ix (ix3 b t u)) 1#32) = 1#1
  rw [rowsBT_apply ix w h]
  generalize w b t = v
  fin_cases v <;> rfl

/-- The row that the gather reads at an image and a tile: the word, clamped to the table. -/
theorem gatherBT_apply (tab : FVec F S2x1024 .f32) (ix : IVec S16x28x1 32) (b : Fin 16) (t : Fin 28) (j : Fin 1024) :
    Host.gather gather_S2x1024_S16x28x1_S16x28x1024_2_0_n_n_0_2_11024 tab ix (ix3 b t j)
      = tab (ix2 ⟨min (ix (ix3 b t (0 : Fin 1))).toInt.toNat 1, by omega⟩ j) := by
  refine congrArg tab (funext fun a => Fin.ext ?_)
  match a with
  | ⟨0, _⟩ =>
    have e : (gather_S2x1024_S16x28x1_S16x28x1024_2_0_n_n_0_2_11024).siIdx (ix3 b t j) (⟨0, by decide⟩ : Fin 1) = (ix3 b t (0 : Fin 1) : S16x28x1.Idx) :=
      funext fun a => Fin.ext (match a with | ⟨0, _⟩ => rfl | ⟨1, _⟩ => rfl | ⟨2, _⟩ => rfl)
    exact congrArg (fun p => min (ix p).toInt.toNat 1) e
  | ⟨1, _⟩ => exact Nat.zero_add _

/-- A lookup whose words name rows reads those rows. -/
theorem takeBT_apply (tab : FVec F S2x1024 .f32) (ix : IVec S16x28 32) (w : Fin 16 → Fin 28 → Fin 2)
    (h : ∀ b t, ix (ix2 b t) = BitVec.ofNat 32 (w b t).val) (b : Fin 16) (t : Fin 28) (j : Fin 1024) :
    takeBT tab ix (ix3 b t j) = tab (ix2 (w b t) j) := by
  unfold takeBT
  rw [select_apply, broadcastInDim_apply _ _ _ _ (ix2 b t : S16x28.Idx) (fun a => match a with | ⟨0, _⟩ => rfl | ⟨1, _⟩ => rfl),
    validBT_apply ix w h, select_one, gatherBT_apply]
  refine congrArg tab (congrArg (fun v : Fin 2 => (ix2 v j : S2x1024.Idx)) (Fin.ext ?_))
  show min (rowsBT ix (ix3 b t (0 : Fin 1))).toInt.toNat 1 = (w b t).val
  rw [rowsBT_apply ix w h]
  generalize w b t = v
  fin_cases v <;> rfl

/-! ## A lookup by tile, of a table of twenty rows -/

/-- The row words of a lookup by tile, negative ones wrapped once, with a last axis of length one. -/
def rowsT (ix : IVec S28 32) : IVec S28x1 32 :=
  broadcastInDim S28x1 ![0] bcast_S28_S28x1_0
    (select (cmpi .slt ix (broadcastInDim S28 ![] bcast_S_S28 (constantI S_ 32 0#32)))
      (addi ix (broadcastInDim S28 ![] bcast_S_S28 (constantI S_ 32 20#32))) ix)

/-- Whether a lookup's row words are rows of the table, tile by tile. -/
def validT (ix : IVec S28 32) : IVec S28 1 :=
  Host.reduce IntOp.andi
    (andi (cmpi .sge (rowsT ix) (broadcastInDim S28x1 ![] bcast_S_S28x1 (constantI S_ 32 0#32)))
      (cmpi .sle (rowsT ix) (broadcastInDim S28x1 ![0, 1] bcast_S1x1_S28x1_0_1
        (broadcastInDim S1x1 ![1] bcast_S1_S1x1_1 (constantI S1 32 19#32)))))
    (constantI S_ 1 1#1) reducesTo_S28x1_S28_d1 h_S_

/-- The lookup: the table's rows, and not-a-number where a word is no row. -/
def takeT (tab : FVec F S20x1024 .f32) (ix : IVec S28 32) : FVec F S28x1024 .f32 :=
  select (broadcastInDim S28x1024 ![0] bcast_S28_S28x1024_0 (validT ix))
    (Host.gather gather_S20x1024_S28x1_S28x1024_1_0_n_n_0_1_11024 tab (rowsT ix))
    (broadcastInDim S28x1024 ![] bcast_S_S28x1024 (constant S_ .f32 0x7FC00000#32))

/-- A word that names one of twenty rows is not negative. -/
theorem select_twenty (w : Fin 20) (a : BitVec 32) :
    Scalar.select (IntOp.cmpi .slt (BitVec.ofNat 32 w.val) 0#32) a (BitVec.ofNat 32 w.val) = BitVec.ofNat 32 w.val := by
  fin_cases w <;> rfl

/-- The row words of a lookup whose words name rows are those words. -/
theorem rowsT_apply (ix : IVec S28 32) (w : Fin 28 → Fin 20) (h : ∀ t, ix (ix1 t) = BitVec.ofNat 32 (w t).val)
    (t : Fin 28) (u : Fin 1) : rowsT ix (ix2 t u) = BitVec.ofNat 32 (w t).val := by
  unfold rowsT
  rw [broadcastInDim_apply _ _ _ _ (ix1 t : S28.Idx) (fun a => match a with | ⟨0, _⟩ => rfl), select_apply]
  show Scalar.select (IntOp.cmpi .slt (ix (ix1 t)) 0#32) (IntOp.addi (ix (ix1 t)) 20#32) (ix (ix1 t)) = _
  rw [h]
  exact select_twenty _ _

/-- Such words are all rows of the table. -/
theorem validT_apply (ix : IVec S28 32) (w : Fin 28 → Fin 20) (h : ∀ t, ix (ix1 t) = BitVec.ofNat 32 (w t).val)
    (y : S28.Idx) : validT ix y = 1#1 := by
  refine Host.reduce_andi_one _ _ _ _ y rfl fun i => ?_
  obtain ⟨t, u, rfl⟩ : ∃ t u, i = (ix2 t u : S28x1.Idx) := ⟨_, _, eq_ix2 i⟩
  show IntOp.andi (IntOp.cmpi .sge (rowsT ix (ix2 t u)) 0#32) (IntOp.cmpi .sle (rowsT ix (ix2 t u)) 19#32) = 1#1
  rw [rowsT_apply ix w h]
  generalize w t = v
  fin_cases v <;> rfl

/-- The row that the gather reads at a tile: the word, clamped to the table. -/
theorem gatherT_apply (tab : FVec F S20x1024 .f32) (ix : IVec S28x1 32) (t : Fin 28) (j : Fin 1024) :
    Host.gather gather_S20x1024_S28x1_S28x1024_1_0_n_n_0_1_11024 tab ix (ix2 t j)
      = tab (ix2 ⟨min (ix (ix2 t (0 : Fin 1))).toInt.toNat 19, by omega⟩ j) := by
  refine congrArg tab (funext fun a => Fin.ext ?_)
  match a with
  | ⟨0, _⟩ =>
    have e : (gather_S20x1024_S28x1_S28x1024_1_0_n_n_0_1_11024).siIdx (ix2 t j) (⟨0, by decide⟩ : Fin 1) = (ix2 t (0 : Fin 1) : S28x1.Idx) :=
      funext fun a => Fin.ext (match a with | ⟨0, _⟩ => rfl | ⟨1, _⟩ => rfl)
    exact congrArg (fun p => min (ix p).toInt.toNat 19) e
  | ⟨1, _⟩ => exact Nat.zero_add _

/-- A lookup whose words name rows reads those rows. -/
theorem takeT_apply (tab : FVec F S20x1024 .f32) (ix : IVec S28 32) (w : Fin 28 → Fin 20)
    (h : ∀ t, ix (ix1 t) = BitVec.ofNat 32 (w t).val) (t : Fin 28) (j : Fin 1024) :
    takeT tab ix (ix2 t j) = tab (ix2 (w t) j) := by
  unfold takeT
  rw [select_apply, broadcastInDim_apply _ _ _ _ (ix1 t : S28.Idx) (fun a => match a with | ⟨0, _⟩ => rfl),
    validT_apply ix w h, select_one, gatherT_apply]
  refine congrArg tab (congrArg (fun v : Fin 20 => (ix2 v j : S20x1024.Idx)) (Fin.ext ?_))
  show min (rowsT ix (ix2 t (0 : Fin 1))).toInt.toNat 19 = (w t).val
  rw [rowsT_apply ix w h]
  generalize w t = v
  fin_cases v <;> rfl

end Cert.Proof.Lookup

end
-- ==== Proof.RefValue.lean ====
/- What the reference computes, index by index, where every image's word is 0 or 1. -/
module

public import proofs.«01_k».proof.Proof.RefTake
public import proofs.«01_k».proof.Proof.CopyList
public import proofs.«01_k».proof.Proof.Gen.ReferenceIdeal.Run

@[expose] public section

noncomputable section

namespace Cert.Proof.Lookup

open Cert.ReferenceIdeal Cert.ReferenceIdeal.Gen Cert.Proof.Copies
open Idealize.ShloMosaic Idealize.ShloMosaic.TcCoe Idealize.ShloMosaic.ValueIdx

variable {F : FTy → Type} [FloatOps F]

/-! ## The four arrays of row words -/

/-- The image words, one for every image and tile. -/
def imgWords (it : IVec S16 32) : IVec S16x28 32 :=
  broadcastInDim S16x28 ![0, 1] bcast_S16x1_S16x28_0_1 (shapeCast S16x1 it shapeCasts_S16_S16x1)
/-- The type words, tile by tile: zero, and one at the last tile. -/
def typWords₀ : IVec S28 32 :=
  Host.scatter scatter_S28_S1_S__n_0_0_0 (fun _ b => b) (broadcastInDim S28 ![] bcast_S_S28 (constantI S_ 32 0#32))
    (broadcastInDim S1 ![] bcast_S_S1 (constantI S_ 32 27#32)) (constantI S_ 32 1#32)
/-- The type words, one for every image and tile. -/
def typWords : IVec S16x28 32 :=
  broadcastInDim S16x28 ![0, 1] bcast_S1x28_S16x28_0_1 (broadcastInDim S1x28 ![1] bcast_S28_S1x28_1 typWords₀)
/-- The words of the tiles' rows in the grid. -/
def rowWords : IVec S28 32 :=
  concatenate S28 0 [⟨S27, (shapeCast S27 (broadcastInDim S3x9 ![0] bcast_S3_S3x9_0 (iotaInDim S3 32 0)) shapeCasts_S3x9_S27)⟩,
    ⟨S1, (constantI S1 32 19#32)⟩] concatenates_S27_S1_S28_d0
/-- The words of the tiles' columns in the grid. -/
def colWords : IVec S28 32 :=
  concatenate S28 0 [⟨S27, (shapeCast S27 (broadcastInDim S3x9 ![0, 1] bcast_S1x9_S3x9_0_1 (shapeCast S1x9 (iotaInDim S9 32 0) shapeCasts_S9_S1x9)) shapeCasts_S3x9_S27)⟩,
    ⟨S1, (constantI S1 32 19#32)⟩] concatenates_S27_S1_S28_d0

theorem rowWords_apply : ∀ t : Fin 28, rowWords (ix1 t) = BitVec.ofNat 32 (rowOf t.val) := by decide +kernel
theorem colWords_apply : ∀ t : Fin 28, colWords (ix1 t) = BitVec.ofNat 32 (colOf t.val) := by decide +kernel
theorem typWords₀_apply : ∀ t : Fin 28, typWords₀ (ix1 t) = BitVec.ofNat 32 (typOf t.val) := by decide +kernel

/-- The type word of an image and a tile is the tile's. -/
theorem typWords_apply (b : Fin 16) (t : Fin 28) : typWords (ix2 b t) = BitVec.ofNat 32 (typOf t.val) := by
  unfold typWords
  rw [broadcastInDim_apply _ _ _ _ (ix2 (0 : Fin 1) t : S1x28.Idx) (fun a => match a with | ⟨0, _⟩ => rfl | ⟨1, _⟩ => rfl),
    broadcastInDim_apply _ _ _ _ (ix1 t : S28.Idx) (fun a => match a with | ⟨0, _⟩ => rfl), typWords₀_apply]

/-- The image word of an image and a tile is the image's. -/
theorem imgWords_apply (it : IVec S16 32) (b : Fin 16) (t : Fin 28) : imgWords it (ix2 b t) = it (ix1 b) := by
  unfold imgWords
  rw [broadcastInDim_apply _ _ _ _ (ix2 b (0 : Fin 1) : S16x1.Idx) (fun a => match a with | ⟨0, _⟩ => rfl | ⟨1, _⟩ => rfl)]
  refine shapeCast_apply _ _ _ (ix1 b : S16.Idx) ?_
  rw [Shape.rowMajor_val_one, Shape.rowMajor_val_two]
  show b.val = b.val * 1 + 0
  omega

/-! ## The reference's sum -/

/-- An array of images, tiles and columns, the same for every row of a tile. -/
def perTile (x : FVec F S16x28x1024 .f32) : FVec F S16x28x64x1024 .f32 :=
  broadcastInDim S16x28x64x1024 ![0, 1, 2, 3] bcast_S16x28x1x1024_S16x28x64x1024_0_1_2_3
    (broadcastInDim S16x28x1x1024 ![0, 1, 3] bcast_S16x28x1024_S16x28x1x1024_0_1_3 x)
/-- An array of tiles and columns, the same for every image and every row of a tile. -/
def perGrid (x : FVec F S28x1024 .f32) : FVec F S16x28x64x1024 .f32 :=
  broadcastInDim S16x28x64x1024 ![0, 1, 2, 3] bcast_S1x28x1x1024_S16x28x64x1024_0_1_2_3
    (broadcastInDim S1x28x1x1024 ![1, 3] bcast_S28x1024_S1x28x1x1024_1_3 x)
/-- The local array, the same for every image and tile. -/
def perRow (x : FVec F S1x64x1024 .f32) : FVec F S16x28x64x1024 .f32 :=
  broadcastInDim S16x28x64x1024 ![0, 1, 2, 3] bcast_S1x1x64x1024_S16x28x64x1024_0_1_2_3
    (broadcastInDim S1x1x64x1024 ![1, 2, 3] bcast_S1x64x1024_S1x1x64x1024_1_2_3 x)

theorem perTile_apply (x : FVec F S16x28x1024 .f32) (b : Fin 16) (t : Fin 28) (l : Fin 64) (j : Fin 1024) :
    perTile x (ix4 b t l j) = x (ix3 b t j) := by
  unfold perTile
  rw [broadcastInDim_apply _ _ _ _ (ix4 b t (0 : Fin 1) j : S16x28x1x1024.Idx)
      (fun a => match a with | ⟨0, _⟩ => rfl | ⟨1, _⟩ => rfl | ⟨2, _⟩ => rfl | ⟨3, _⟩ => rfl),
    broadcastInDim_apply _ _ _ _ (ix3 b t j : S16x28x1024.Idx) (fun a => match a with | ⟨0, _⟩ => rfl | ⟨1, _⟩ => rfl | ⟨2, _⟩ => rfl)]
theorem perGrid_apply (x : FVec F S28x1024 .f32) (b : Fin 16) (t : Fin 28) (l : Fin 64) (j : Fin 1024) :
    perGrid x (ix4 b t l j) = x (ix2 t j) := by
  unfold perGrid
  rw [broadcastInDim_apply _ _ _ _ (ix4 (0 : Fin 1) t (0 : Fin 1) j : S1x28x1x1024.Idx)
      (fun a => match a with | ⟨0, _⟩ => rfl | ⟨1, _⟩ => rfl | ⟨2, _⟩ => rfl | ⟨3, _⟩ => rfl),
    broadcastInDim_apply _ _ _ _ (ix2 t j : S28x1024.Idx) (fun a => match a with | ⟨0, _⟩ => rfl | ⟨1, _⟩ => rfl)]
theorem perRow_apply (x : FVec F S1x64x1024 .f32) (b : Fin 16) (t : Fin 28) (l : Fin 64) (j : Fin 1024) :
    perRow x (ix4 b t l j) = x (ix3 (0 : Fin 1) l j) := by
  unfold perRow
  rw [broadcastInDim_apply _ _ _ _ (ix4 (0 : Fin 1) (0 : Fin 1) l j : S1x1x64x1024.Idx)
      (fun a => match a with | ⟨0, _⟩ => rfl | ⟨1, _⟩ => rfl | ⟨2, _⟩ => rfl | ⟨3, _⟩ => rfl),
    broadcastInDim_apply _ _ _ _ (ix3 (0 : Fin 1) l j : S1x64x1024.Idx) (fun a => match a with | ⟨0, _⟩ => rfl | ⟨1, _⟩ => rfl | ⟨2, _⟩ => rfl)]

/-- The reference's result as one term of its arguments. -/
def refSum (it : IVec S16 32) (loc : FVec F S1x64x1024 .f32) (row col : FVec F S20x1024 .f32) (img typ : FVec F S2x1024 .f32) :
    FVec F S16x1792x1024 .f32 :=
  shapeCast S16x1792x1024
    (addf (addf (addf (perRow loc) (perGrid (addf (takeT row rowWords) (takeT col colWords)))) (perTile (takeBT img (imgWords it))))
      (perTile (takeBT typ typWords))) shapeCasts_S16x28x64x1024_S16x1792x1024

set_option maxRecDepth 8192 in
/-- The run's result is that term. -/
theorem result_eq (m : (ℓ : Loc nD τ sig) → Buf (Elt F) ℓ) (c : Dev nD) :
    Value.res_out0 m c = refSum (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem rowOf_bound (t : Fin 28) : rowOf t.val < 20 := by unfold rowOf; split <;> omega
theorem colOf_bound (t : Fin 28) : colOf t.val < 20 := by unfold colOf; split <;> omega
theorem typOf_bound (t : Fin 28) : typOf t.val < 2 := by unfold typOf; split <;> omega

/-- Where every image's word names a row of the image table: the reference at image `b`, row `r`, column `j`. -/
theorem refSum_apply (it : IVec S16 32) (loc : FVec F S1x64x1024 .f32) (row col : FVec F S20x1024 .f32) (img typ : FVec F S2x1024 .f32)
    (w : Fin 16 → Fin 2) (hw : ∀ b, it (ix1 b) = BitVec.ofNat 32 (w b).val) (b : Fin 16) (r : Fin 1792) (t : Fin 28) (ht : t.val = r.val / 64) (j : Fin 1024) :
    refSum it loc row col img typ (ix3 b r j)
      = FloatOps.addf (FloatOps.addf (FloatOps.addf (loc (ix3 (0 : Fin 1) ⟨r.val % 64, Nat.mod_lt _ (by decide)⟩ j))
            (FloatOps.addf (row (ix2 ⟨rowOf t.val, rowOf_bound t⟩ j)) (col (ix2 ⟨colOf t.val, colOf_bound t⟩ j))))
          (img (ix2 (w b) j)))
        (typ (ix2 ⟨typOf t.val, typOf_bound t⟩ j)) := by
  have hl : r.val % 64 < 64 := Nat.mod_lt _ (by decide)
  unfold refSum
  rw [shapeCast_apply _ _ _ (ix4 b t ⟨r.val % 64, hl⟩ j : S16x28x64x1024.Idx) (by
    rw [Shape.rowMajor_val_four, Shape.rowMajor_val_three]
    show ((b.val * 28 + t.val) * 64 + r.val % 64) * 1024 + j.val = (b.val * 1792 + r.val) * 1024 + j.val
    omega)]
  show FloatOps.addf (FloatOps.addf (FloatOps.addf (perRow loc (ix4 b t ⟨r.val % 64, hl⟩ j))
      (perGrid (addf (takeT row rowWords) (takeT col colWords)) (ix4 b t ⟨r.val % 64, hl⟩ j)))
      (perTile (takeBT img (imgWords it)) (ix4 b t ⟨r.val % 64, hl⟩ j))) (perTile (takeBT typ typWords) (ix4 b t ⟨r.val % 64, hl⟩ j)) = _
  rw [perRow_apply, perGrid_apply, perTile_apply, perTile_apply,
    takeBT_apply img (imgWords it) (fun b _ => w b) (fun b t => (imgWords_apply it b t).trans (hw b)),
    takeBT_apply typ typWords (fun _ t => ⟨typOf t.val, typOf_bound t⟩) (fun b t => typWords_apply b t)]
  show FloatOps.addf (FloatOps.addf (FloatOps.addf _ (FloatOps.addf (takeT row rowWords (ix2 t j)) (takeT col colWords (ix2 t j)))) _) _ = _
  rw [takeT_apply row rowWords (fun t => ⟨rowOf t.val, rowOf_bound t⟩) rowWords_apply,
    takeT_apply col colWords (fun t => ⟨colOf t.val, colOf_bound t⟩) colWords_apply]

end Cert.Proof.Lookup

end
-- ==== Proof.Equation.lean ====
/- The kernel's result and the reference's are the same extended reals where every image's word is 0 or 1. -/
module

public import proofs.«01_k».proof.Proof.OutValue
public import proofs.«01_k».proof.Proof.RefValue
public import proofs.«01_k».proof.Proof.Gen.Pre_in_range
public import Idealize.ShloMosaic.Lib.ValueIdx
public import Idealize.ShloMosaic.Lib.Affine

@[expose] public section

noncomputable section

namespace Cert.Proof.Meet

open Cert.Proof.Copies Cert.Proof.Whole Cert.Proof.Lookup
open Idealize.ShloMosaic Idealize.ShloMosaic.TcCoe Idealize.ShloMosaic.ValueIdx
open Idealize.SL.Sem

/-- A word that is at least 0 and below 2, read signed, is 0 or 1. -/
theorem word_two (x : BitVec 32) (h0 : 0 ≤ x.toInt) (h2 : x.toInt < 2) : ∃ w : Fin 2, x = BitVec.ofNat 32 w.val := by
  have hx : x = BitVec.ofInt 32 x.toInt := (BitVec.ofInt_toInt).symm
  rcases (by omega : x.toInt = 0 ∨ x.toInt = 1) with e | e
  · exact ⟨0, by rw [hx, e]; rfl⟩
  · exact ⟨1, by rw [hx, e]; rfl⟩

/-- What the precondition says: every image's word is 0 or 1. -/
theorem words (it : IVec Cert.Pre_in_range.S16 32) (loc : FVec Ideal Cert.Pre_in_range.S1x64x1024 .f32)
    (row col : FVec Ideal Cert.Pre_in_range.S20x1024 .f32) (img typ : FVec Ideal Cert.Pre_in_range.S2x1024 .f32)
    (h : Cert.Pre_in_range.fn (F := Ideal) it loc row col img typ = fun _ => 1#1) :
    ∃ w : Fin 16 → Fin 2, ∀ b, it (ix1 b) = BitVec.ofNat 32 (w b).val := by
  haveI : Subsingleton Cert.Pre_in_range.S_.Idx := ⟨fun a b => funext fun x => x.elim0⟩
  have k (b : Fin 16) : ∃ w : Fin 2, it (ix1 b) = BitVec.ofNat 32 w.val := by
    have e := Host.reduce_andi_all _ _ _ _ ix0 (congrFun h ix0) (ix1 b : Cert.Pre_in_range.S16.Idx)
    have e' := IntOp.andi_eq_one.1 e
    exact word_two _ (IntOp.cmpi_sge.1 e'.1) (IntOp.cmpi_slt.1 e'.2)
  exact ⟨fun b => (k b).choose, fun b => (k b).choose_spec⟩

/-- The two sums of one entry's five terms, in the kernel's order and in the reference's. -/
theorem five (l r c i t : EReal) : (l + i) + ((r + c) + t) = ((l + (r + c)) + i) + t := by
  rw [← add_assoc (l + i), add_right_comm l i]

/-- Entry by entry, the kernel's value is the reference's. -/
theorem entry_eq (it : Vec Ideal Cert.KernelIdeal.S16 .i32) (loc : Vec Ideal Cert.KernelIdeal.S1x64x1024 .f32)
    (row col : Vec Ideal Cert.KernelIdeal.S20x1024 .f32) (img typ : Vec Ideal Cert.KernelIdeal.S2x1024 .f32)
    (w : Fin 16 → Fin 2) (hw : ∀ b, it (ix1 b) = BitVec.ofNat 32 (w b).val) (b : Fin 16) (r : Fin 1792) (j : Fin 1024) :
    entryAt (F := Ideal) it loc row col img typ b r j = refSum (F := Ideal) it loc row col img typ (ix3 b r j) := by
  have hi : (if it (ix1 b) = 0 then img (ix2 (0 : Fin 2) j) else img (ix2 (1 : Fin 2) j)) = img (ix2 (w b) j) := by
    rw [hw]
    generalize w b = v
    fin_cases v <;> rfl
  refine Eq.trans ?_ (refSum_apply (F := Ideal) it loc row col img typ w hw b r ⟨r.val / 64, tile_of_row r⟩ rfl j).symm
  unfold entryAt
  rw [hi]
  exact five _ _ _ _ _

/-- The whole result arrays are equal. -/
theorem results_eq (m : (ℓ : Loc Cert.KernelIdeal.nD Cert.KernelIdeal.τ Cert.KernelIdeal.sig) → Buf (Elt Ideal) ℓ) (c : Dev Cert.KernelIdeal.nD)
    (w : Fin 16 → Fin 2)
    (hw : ∀ b, (m ((c.tc : Thread Cert.KernelIdeal.nD Cert.KernelIdeal.τ).loc Cert.KernelIdeal.main_arg0) : Vec Ideal Cert.KernelIdeal.S16 .i32) (ix1 b)
      = BitVec.ofNat 32 (w b).val) :
    final (F := Ideal) m c = refSum (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  funext y
  obtain ⟨b, r, j, rfl⟩ : ∃ b r j, y = (ix3 b r j : Cert.KernelIdeal.S16x1792x1024.Idx) := ⟨_, _, _, eq_ix3 y⟩
  exact (final_apply m c b r j).trans (entry_eq _ _ _ _ _ _ w hw b r j)

end Cert.Proof.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range

public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

set_option smartUnfolding false in
set_option maxRecDepth 20000 in
set_option maxHeartbeats 1000000 in
/-- The program runs to its end from every launch, leaves its six arguments as they were and every counter at zero: the
    run at the bit-exact floats. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Whole.run_main (F := Bits) m ρ)

/-- The same of its idealization: the same run at the ideal floats. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Whole.run_main (F := Ideal) m ρ)

/-- The reference runs to its end and leaves its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From launches that agree on the arguments, every image's word being 0 or 1, both programs end with the same array. -/
theorem algebraic : Cert.algebraic_KernelIdeal_ReferenceIdeal_pre_in_range := by
  intro m ρ m' ρ' hpre hagree
  refine ⟨fun c => Whole.final m c, ?_, ?_⟩
  · exact (θ_run Cert.KernelIdeal.defs _ _).mono
      (fun _ h c => ⟨(h.1 c).2.2.2.2.2.2, (h.1 c).1, (h.1 c).2.1, (h.1 c).2.2.1, (h.1 c).2.2.2.1, (h.1 c).2.2.2.2.1, (h.1 c).2.2.2.2.2.1⟩)
      (Whole.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨w, hw⟩ := Meet.words _ _ _ _ _ _ (hpre c)
    refine (Lookup.result_eq m' c).trans (Eq.trans ?_ (Meet.results_eq m c w hw).symm)
    obtain ⟨e0, e1, e2, e3, e4, e5⟩ := hagree c
    rw [e0, e1, e2, e3, e4, e5]

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, fun m ρ _ => frame_ideal m ρ trivial, frame_reference, fun m ρ _ => frame_reference m ρ trivial,
  trivial, algebraic⟩

end Cert.Proof

end
